-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3072 : Shape := ⟨3, ![2, 128, 3072]⟩
abbrev S3072x8192 : Shape := ⟨2, ![3072, 8192]⟩
abbrev S8192 : Shape := ⟨1, ![8192]⟩
abbrev S256x3072 : Shape := ⟨2, ![256, 3072]⟩
abbrev S1x8192 : Shape := ⟨2, ![1, 8192]⟩
abbrev S256x8192 : Shape := ⟨2, ![256, 8192]⟩
abbrev S256x1 : Shape := ⟨2, ![256, 1]⟩
abbrev S3072x512 : Shape := ⟨2, ![3072, 512]⟩
abbrev S1x512 : Shape := ⟨2, ![1, 512]⟩
abbrev S256x512 : Shape := ⟨2, ![256, 512]⟩
abbrev S64x3072 : Shape := ⟨2, ![64, 3072]⟩
abbrev S64 : Shape := ⟨1, ![64]⟩
abbrev S64x1 : Shape := ⟨2, ![64, 1]⟩
abbrev S512x512 : Shape := ⟨2, ![512, 512]⟩
abbrev S2x128x8192 : Shape := ⟨3, ![2, 128, 8192]⟩
abbrev S2x128 : Shape := ⟨2, ![2, 128]⟩

abbrev nBuf : Space → Nat
  | .hbm => 15
  | .vmem => 13
  | .smem => 0
  | _ => 0

abbrev bufTy : (tb : Table) → Fin (tcTables nBuf tb) → BufTy
  | .hbm, ⟨0, _⟩ => ⟨S2x128x3072, .f32⟩
  | .hbm, ⟨1, _⟩ => ⟨S3072x8192, .i8⟩
  | .hbm, ⟨2, _⟩ => ⟨S8192, .f32⟩
  | .hbm, ⟨3, _⟩ => ⟨S8192, .f32⟩
  | .hbm, ⟨4, _⟩ => ⟨S256x3072, .f32⟩
  | .hbm, ⟨5, _⟩ => ⟨S1x8192, .f32⟩
  | .hbm, ⟨6, _⟩ => ⟨S1x8192, .f32⟩
  | .hbm, ⟨7, _⟩ => ⟨S256x8192, .f32⟩
  | .hbm, ⟨8, _⟩ => ⟨S256x3072, .i8⟩
  | .hbm, ⟨9, _⟩ => ⟨S256x1, .f32⟩
  | .hbm, ⟨10, _⟩ => ⟨S256x1, .i32⟩
  | .hbm, ⟨11, _⟩ => ⟨S2x128x8192, .f32⟩
  | .hbm, ⟨12, _⟩ => ⟨S2x128x3072, .i8⟩
  | .hbm, ⟨13, _⟩ => ⟨S2x128, .f32⟩
  | .hbm, ⟨14, _⟩ => ⟨S2x128, .i32⟩
  | .local _ .vmem, ⟨0, _⟩ => ⟨S256x3072, .f32⟩
  | .local _ .vmem, ⟨1, _⟩ => ⟨S3072x512, .i8⟩
  | .local _ .vmem, ⟨2, _⟩ => ⟨S3072x512, .i8⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x3072, .i8⟩
  | .local _ .vmem, ⟨10, _⟩ => ⟨S256x1, .f32⟩
  | .local _ .vmem, ⟨11, _⟩ => ⟨S256x1, .i32⟩
  | .local _ .vmem, ⟨12, _⟩ => ⟨S256x3072, .bf16⟩
  | _, _ => ⟨S2x128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x3072 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x3072 : Shape := ⟨3, ![2, 128, 3072]⟩
abbrev S3072x8192 : Shape := ⟨2, ![3072, 8192]⟩
abbrev S8192 : Shape := ⟨1, ![8192]⟩
abbrev S_ : Shape := ⟨0, ![]⟩
abbrev S2x128 : Shape := ⟨2, ![2, 128]⟩
abbrev S2x128x1 : Shape := ⟨3, ![2, 128, 1]⟩
abbrev S2x128x3072x1 : Shape := ⟨4, ![2, 128, 3072, 1]⟩
abbrev S1x1x3072x8192 : Shape := ⟨4, ![1, 1, 3072, 8192]⟩
abbrev S2x128x3072x8192 : Shape := ⟨4, ![2, 128, 3072, 8192]⟩
abbrev S2x128x8192 : Shape := ⟨3, ![2, 128, 8192]⟩
abbrev S1x1x8192 : Shape := ⟨3, ![1, 1, 8192]⟩

abbrev nBuf : Space → Nat
  | .hbm => 83
  | .vmem => 0
  | .smem => 0
  | _ => 0

abbrev bufTy : (tb : Table) → Fin (tcTables nBuf tb) → BufTy
  | .hbm, ⟨0, _⟩ => ⟨S2x128x3072, .f32⟩
  | .hbm, ⟨1, _⟩ => ⟨S3072x8192, .i8⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S2x128, .f32⟩
  | .hbm, ⟨6, _⟩ => ⟨S_, .f32⟩
  | .hbm, ⟨7, _⟩ => ⟨S2x128, .f32⟩
  | .hbm, ⟨8, _⟩ => ⟨S2x128, .f32⟩
  | .hbm, ⟨9, _⟩ => ⟨S_, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .i1⟩
  | .hbm, ⟨15, _⟩ => ⟨S2x128, .f32⟩
  | .hbm, ⟨16, _⟩ => ⟨S_, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S_, .f32⟩
  | .hbm, ⟨21, _⟩ => ⟨S2x128, .f32⟩
  | .hbm, ⟨22, _⟩ => ⟨S2x128, .f32⟩
  | .hbm, ⟨23, _⟩ => ⟨S2x128, .f32⟩
  | .hbm, ⟨24, _⟩ => ⟨S_, .f32⟩
  | .hbm, ⟨25, _⟩ => ⟨S2x128, .f32⟩
  | .hbm, ⟨26, _⟩ => ⟨S2x128, .f32⟩
  | .hbm, ⟨27, _⟩ => ⟨S2x128, .f32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S_, .f32⟩
  | .hbm, ⟨34, _⟩ => ⟨S2x128, .f32⟩
  | .hbm, ⟨35, _⟩ => ⟨S2x128, .f32⟩
  | .hbm, ⟨36, _⟩ => ⟨S2x128, .i32⟩
  | .hbm, ⟨37, _⟩ => ⟨S2x128x1, .f32⟩
  | .hbm, ⟨38, _⟩ => ⟨S2x128x3072, .f32⟩
  | .hbm, ⟨39, _⟩ => ⟨S2x128x3072, .f32⟩
  | .hbm, ⟨40, _⟩ => ⟨S2x128x3072, .f32⟩
  | .hbm, ⟨41, _⟩ => ⟨S2x128x1, .i32⟩
  | .hbm, ⟨42, _⟩ => ⟨S2x128x1, .f32⟩
  | .hbm, ⟨43, _⟩ => ⟨S2x128x3072, .f32⟩
  | .hbm, ⟨44, _⟩ => ⟨S2x128x3072, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S2x128x3072, .f32⟩
  | .hbm, ⟨49, _⟩ => ⟨S2x128x3072, .f32⟩
  | .hbm, ⟨50, _⟩ => ⟨S_, .f32⟩
  | .hbm, ⟨51, _⟩ => ⟨S2x128x3072, .f32⟩
  | .hbm, ⟨52, _⟩ => ⟨S2x128x3072, .f32⟩
  | .hbm, ⟨53, _⟩ => ⟨S2x128x3072, .i32⟩
  | .hbm, ⟨54, _⟩ => ⟨S2x128x3072, .i8⟩
  | .hbm, ⟨55, _⟩ => ⟨S3072x8192, .i32⟩
  | .hbm, ⟨56, _⟩ => ⟨S_, .i32⟩
  | .hbm, ⟨57, _⟩ => ⟨S8192, .i32⟩
  | .hbm, ⟨58, _⟩ => ⟨S2x128x3072, .i32⟩
  | .hbm, ⟨59, _⟩ => ⟨S2x128x3072x1, .i32⟩
  | .hbm, ⟨60, _⟩ => ⟨S3072x8192, .i32⟩
  | .hbm, ⟨61, _⟩ => ⟨S1x1x3072x8192, .i32⟩
  | .hbm, ⟨62, _⟩ => ⟨S2x128x3072x8192, .i32⟩
  | .hbm, ⟨63, _⟩ => ⟨S2x128x3072x8192, .i32⟩
  | .hbm, ⟨64, _⟩ => ⟨S2x128x3072x8192, .i32⟩
  | .hbm, ⟨65, _⟩ => ⟨S_, .i32⟩
  | .hbm, ⟨66, _⟩ => ⟨S2x128x8192, .i32⟩
  | .hbm, ⟨67, _⟩ => ⟨S2x128x1, .i32⟩
  | .hbm, ⟨68, _⟩ => ⟨S1x1x8192, .i32⟩
  | .hbm, ⟨69, _⟩ => ⟨S2x128x8192, .i32⟩
  | .hbm, ⟨70, _⟩ => ⟨S2x128x8192, .i32⟩
  | .hbm, ⟨71, _⟩ => ⟨S2x128x8192, .i32⟩
  | .hbm, ⟨72, _⟩ => ⟨S2x128x8192, .i32⟩
  | .hbm, ⟨73, _⟩ => ⟨S2x128x8192, .f32⟩
  | .hbm, ⟨74, _⟩ => ⟨S2x128x1, .f32⟩
  | .hbm, ⟨75, _⟩ => ⟨S1x1x8192, .f32⟩
  | .hbm, ⟨76, _⟩ => ⟨S2x128x8192, .f32⟩
  | .hbm, ⟨77, _⟩ => ⟨S2x128x8192, .f32⟩
  | .hbm, ⟨78, _⟩ => ⟨S2x128x8192, .f32⟩
  | .hbm, ⟨79, _⟩ => ⟨S2x128x8192, .f32⟩
  | .hbm, ⟨80, _⟩ => ⟨S1x1x8192, .f32⟩
  | .hbm, ⟨81, _⟩ => ⟨S2x128x8192, .f32⟩
  | .hbm, ⟨82, _⟩ => ⟨S2x128x8192, .f32⟩
  | _, _ => ⟨S2x128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_c_6 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_c_8 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== Proof.Runs.lean ====
/- What the two runs of the kernel body are stated over: the condition of its one `scf.if` in closed form
   over the grid points, where the output windows are idle, and the staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 5 is idle exactly at the points after the first: there the body stores nothing into it. -/
theorem idle0_5 (t : Fin cfg0.N) : cfg0.idle 5 (grid0.coords t) = !(k0_cond1 (grid0.coords t) == 1#1) := rfl
/-- Window 6 likewise. -/
theorem idle0_6 (t : Fin cfg0.N) : cfg0.idle 6 (grid0.coords t) = !(k0_cond1 (grid0.coords t) == 1#1) := rfl
/-- Window 7 likewise. -/
theorem idle0_7 (t : Fin cfg0.N) : cfg0.idle 7 (grid0.coords t) = !(k0_cond1 (grid0.coords t) == 1#1) := rfl

/-! ## The staging memrefs -/

/-- Each window's current staging memref at point `t`, spelled as the pipeline passes it (`bodyAt0`), and its wholeness. -/
abbrev ms0_0 (t : Fin cfg0.N) : Memref sig .tc .vmem S256x3072 .f32 := win0_0.stage (cfg0.slots t 0)
/-- The staging buffer of the input is a whole buffer. -/
abbrev hs0_0 (t : Fin cfg0.N) : (ms0_0 t).IsWhole := hstage0_0 ((cfg0.slots t 0).cast nbuf0_0)
/-- The staging buffer of the weights at a point. -/
abbrev ms0_1 (t : Fin cfg0.N) : Memref sig .tc .vmem S3072x512 .i8 := win0_1.stage (cfg0.slots t 1)
/-- The staging buffer of the weights is a whole buffer. -/
abbrev hs0_1 (t : Fin cfg0.N) : (ms0_1 t).IsWhole := hstage0_1 ((cfg0.slots t 1).cast nbuf0_1)
/-- The staging buffer of the weights' scales at a point. -/
abbrev ms0_2 (t : Fin cfg0.N) : Memref sig .tc .vmem S1x512 .f32 := win0_2.stage (cfg0.slots t 2)
/-- The staging buffer of the weights' scales is a whole buffer. -/
abbrev hs0_2 (t : Fin cfg0.N) : (ms0_2 t).IsWhole := hstage0_2 ((cfg0.slots t 2).cast nbuf0_2)
/-- The staging buffer of the bias at a point. -/
abbrev ms0_3 (t : Fin cfg0.N) : Memref sig .tc .vmem S1x512 .f32 := win0_3.stage (cfg0.slots t 3)
/-- The staging buffer of the bias is a whole buffer. -/
abbrev hs0_3 (t : Fin cfg0.N) : (ms0_3 t).IsWhole := hstage0_3 ((cfg0.slots t 3).cast nbuf0_3)
/-- The staging buffer of the product at a point. -/
abbrev ms0_4 (t : Fin cfg0.N) : Memref sig .tc .vmem S256x512 .f32 := win0_4.stage (cfg0.slots t 4)
/-- The staging buffer of the product is a whole buffer. -/
abbrev hs0_4 (t : Fin cfg0.N) : (ms0_4 t).IsWhole := hstage0_4 ((cfg0.slots t 4).cast nbuf0_4)
/-- The staging buffer of the codes at a point. -/
abbrev ms0_5 (t : Fin cfg0.N) : Memref sig .tc .vmem S256x3072 .i8 := win0_5.stage (cfg0.slots t 5)
/-- The staging buffer of the codes is a whole buffer. -/
abbrev hs0_5 (t : Fin cfg0.N) : (ms0_5 t).IsWhole := hstage0_5 ((cfg0.slots t 5).cast nbuf0_5)
/-- The staging buffer of the scales at a point. -/
abbrev ms0_6 (t : Fin cfg0.N) : Memref sig .tc .vmem S256x1 .f32 := win0_6.stage (cfg0.slots t 6)
/-- The staging buffer of the scales is a whole buffer. -/
abbrev hs0_6 (t : Fin cfg0.N) : (ms0_6 t).IsWhole := hstage0_6 ((cfg0.slots t 6).cast nbuf0_6)
/-- The staging buffer of the zero points at a point. -/
abbrev ms0_7 (t : Fin cfg0.N) : Memref sig .tc .vmem S256x1 .i32 := win0_7.stage (cfg0.slots t 7)
/-- The staging buffer of the zero points is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3072 .bf16 := Memref.whole cc0_scratch0

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- A fixed view of the shape of each output's block, and of the scratch: contents are stated through these. -/
abbrev VO0_4 : View sig .tc .vmem S256x512 .f32 := (Memref.whole cc0_stg4_0 : Memref sig .tc .vmem S256x512 .f32).view
/-- The block of the codes as a view. -/
abbrev VO0_5 : View sig .tc .vmem S256x3072 .i8 := (Memref.whole cc0_stg5_0 : Memref sig .tc .vmem S256x3072 .i8).view
/-- The block of the scales as a view. -/
abbrev VO0_6 : View sig .tc .vmem S256x1 .f32 := (Memref.whole cc0_stg6_0 : Memref sig .tc .vmem S256x1 .f32).view
/-- The block of the zero points as a view. -/
abbrev VO0_7 : View sig .tc .vmem S256x1 .i32 := (Memref.whole cc0_stg7_0 : Memref sig .tc .vmem S256x1 .i32).view
/-- The scratch as a view. -/
abbrev VS0_0 : View sig .tc .vmem S256x3072 .bf16 := scM0_0.view

end Cert.KernelIdeal.Hand

end
-- ==== Proof.RunA.lean ====
/- The run of the kernel body at the grid's first point, where it quantises. -/
module

public import proofs.«01_k».proof.Proof.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the grid's first point, on whole staging memrefs holding `x0 … x3`: the pieces its stores leave in the four
    outputs and in the scratch (last first), found by executing the body, with the proof that it runs to a continuation
    holding the inputs as they were and the outputs and the scratch with these pieces written. -/
noncomputable def kernelRun0_A (c : Dev nD) (i : grid0.Coords) (arg1 : Memref sig .tc .vmem S256x3072 .f32) (harg1 : arg1.IsWhole) (arg2 : Memref sig .tc .vmem S3072x512 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S256x3072 .i8) (harg6 : arg6.IsWhole) (arg7 : Memref sig .tc .vmem S256x1 .f32) (harg7 : arg7.IsWhole) (arg8 : Memref sig .tc .vmem S256x1 .i32) (harg8 : arg8.IsWhole) (arg9 : Memref sig .tc .vmem S256x3072 .bf16) (harg9 : arg9.IsWhole) (hc0 : cond0_0 i)
    (x0 : Vec F S256x3072 .f32) (x1 : Vec F S3072x512 .i8) (x2 : Vec F S1x512 .f32) (x3 : Vec F S1x512 .f32) :
    Σ' (L4 : List (View.Piece (Elt F) S256x512 .f32)), Σ' (L5 : List (View.Piece (Elt F) S256x3072 .i8)), Σ' (L6 : List (View.Piece (Elt F) S256x1 .f32)), Σ' (L7 : List (View.Piece (Elt F) S256x1 .i32)), { LS0 : List (View.Piece (Elt F) S256x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_hybrid_fc i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_hybrid_fc_eq_skeleton]; unfold cc0_hybrid_fc_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact HS0

end Cert.KernelIdeal.Hand

end
-- ==== Proof.RunB.lean ====
/- The run of the kernel body at the later points, where it only multiplies. -/
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point, the code, scale and zero point outputs holding `xo5 xo6 xo7` and the scratch `xs0`: the pieces its
    stores leave in the first output, with the proof that it runs to a continuation holding everything else as it was. -/
noncomputable def kernelRun0_B (c : Dev nD) (i : grid0.Coords) (arg1 : Memref sig .tc .vmem S256x3072 .f32) (harg1 : arg1.IsWhole) (arg2 : Memref sig .tc .vmem S3072x512 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S256x3072 .i8) (harg6 : arg6.IsWhole) (arg7 : Memref sig .tc .vmem S256x1 .f32) (harg7 : arg7.IsWhole) (arg8 : Memref sig .tc .vmem S256x1 .i32) (harg8 : arg8.IsWhole) (arg9 : Memref sig .tc .vmem S256x3072 .bf16) (harg9 : arg9.IsWhole) (hc0 : ¬cond0_0 i)
    (x0 : Vec F S256x3072 .f32) (x1 : Vec F S3072x512 .i8) (x2 : Vec F S1x512 .f32) (x3 : Vec F S1x512 .f32) (xo5 : Vec F S256x3072 .i8) (xo6 : Vec F S256x1 .f32) (xo7 : Vec F S256x1 .i32) (xs0 : Vec F S256x3072 .bf16) :
    { L4 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ owns (c : Thread nD τ) arg8 fullShare xo7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ owns (c : Thread nD τ) arg8 fullShare xo7 ∗ owns (c : Thread nD τ) arg9 fullShare xs0) -∗ K ⟨⟩))
          ⊢ wp frame (wpE (defs₀ (F := F)) Variants.none c none) E (cc0_hybrid_fc i arg1 harg1 arg2 harg2 arg3 harg3 arg4 harg4 arg5 harg5 arg6 harg6 arg7 harg7 arg8 harg8 arg9 harg9) K } := by
  refine ⟨?_, fun E K => ?run⟩
  case run =>
    simp only [cc0_hybrid_fc_eq_skeleton]; unfold cc0_hybrid_fc_skel
    simp only [k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact HS0

end Cert.KernelIdeal.Hand

end
-- ==== Proof.Pieces.lean ====
/- What the runs of the kernel body leave, in closed form: the codes, the scales, the zero points and the shifted codes of
   the whole input as four stores of 64 rows each, and the tile of the product. -/
module

public import proofs.«01_k».proof.Proof.RunB
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Rows 0 to 63 of the input. -/
def rows0 (x : Vec F S256x3072 .f32) : Vec F S64x3072 .f32 :=
  View.ld x (Rect.unit (s := S256x3072) ![0, 0] S64x3072.size inb_S256x3072_S64x3072_0_0)
/-- Rows 64 to 127 of the input. -/
def rows64 (x : Vec F S256x3072 .f32) : Vec F S64x3072 .f32 :=
  View.ld x (Rect.unit (s := S256x3072) ![64, 0] S64x3072.size inb_S256x3072_S64x3072_64_0)
/-- Rows 128 to 191 of the input. -/
def rows128 (x : Vec F S256x3072 .f32) : Vec F S64x3072 .f32 :=
  View.ld x (Rect.unit (s := S256x3072) ![128, 0] S64x3072.size inb_S256x3072_S64x3072_128_0)
/-- Rows 192 to 255 of the input. -/
def rows192 (x : Vec F S256x3072 .f32) : Vec F S64x3072 .f32 :=
  View.ld x (Rect.unit (s := S256x3072) ![192, 0] S64x3072.size inb_S256x3072_S64x3072_192_0)
/-- The zero points of 64 rows, as integers. -/
def zpRows (x : Vec F S64x3072 .f32) : Vec F S64x1 .i32 := k0_pay9 (k0_pay5 x)
/-- The stores of the codes, last first. -/
def codesL (x : Vec F S256x3072 .f32) : List (View.Piece (Elt F) S256x3072 .i8) :=
  [⟨Rect.unit (s := S256x3072) ![192, 0] S64x3072.size inb_S256x3072_S64x3072_192_0, k0_pay7 (rows192 x)⟩,
   ⟨Rect.unit (s := S256x3072) ![128, 0] S64x3072.size inb_S256x3072_S64x3072_128_0, k0_pay7 (rows128 x)⟩,
   ⟨Rect.unit (s := S256x3072) ![64, 0] S64x3072.size inb_S256x3072_S64x3072_64_0, k0_pay7 (rows64 x)⟩,
   ⟨Rect.unit (s := S256x3072) ![0, 0] S64x3072.size inb_S256x3072_S64x3072_0_0, k0_pay7 (rows0 x)⟩]
/-- The stores of the scales, last first. -/
def scaleL (x : Vec F S256x3072 .f32) : List (View.Piece (Elt F) S256x1 .f32) :=
  [⟨Rect.unit (s := S256x1) ![192, 0] S64x1.size inb_S256x1_S64x1_192_0, k0_pay4 (rows192 x)⟩,
   ⟨Rect.unit (s := S256x1) ![128, 0] S64x1.size inb_S256x1_S64x1_128_0, k0_pay4 (rows128 x)⟩,
   ⟨Rect.unit (s := S256x1) ![64, 0] S64x1.size inb_S256x1_S64x1_64_0, k0_pay4 (rows64 x)⟩,
   ⟨Rect.unit (s := S256x1) ![0, 0] S64x1.size inb_S256x1_S64x1_0_0, k0_pay4 (rows0 x)⟩]
/-- The stores of the zero points, last first. -/
def zpL (x : Vec F S256x3072 .f32) : List (View.Piece (Elt F) S256x1 .i32) :=
  [⟨Rect.unit (s := S256x1) ![192, 0] S64x1.size inb_S256x1_S64x1_192_0, zpRows (rows192 x)⟩,
   ⟨Rect.unit (s := S256x1) ![128, 0] S64x1.size inb_S256x1_S64x1_128_0, zpRows (rows128 x)⟩,
   ⟨Rect.unit (s := S256x1) ![64, 0] S64x1.size inb_S256x1_S64x1_64_0, zpRows (rows64 x)⟩,
   ⟨Rect.unit (s := S256x1) ![0, 0] S64x1.size inb_S256x1_S64x1_0_0, zpRows (rows0 x)⟩]
/-- The stores of the codes with the zero point subtracted, last first. -/
def shiftL (x : Vec F S256x3072 .f32) : List (View.Piece (Elt F) S256x3072 .bf16) :=
  [⟨Rect.unit (s := S256x3072) ![192, 0] S64x3072.size inb_S256x3072_S64x3072_192_0, k0_pay8 (rows192 x)⟩,
   ⟨Rect.unit (s := S256x3072) ![128, 0] S64x3072.size inb_S256x3072_S64x3072_128_0, k0_pay8 (rows128 x)⟩,
   ⟨Rect.unit (s := S256x3072) ![64, 0] S64x3072.size inb_S256x3072_S64x3072_64_0, k0_pay8 (rows64 x)⟩,
   ⟨Rect.unit (s := S256x3072) ![0, 0] S64x3072.size inb_S256x3072_S64x3072_0_0, k0_pay8 (rows0 x)⟩]
/-- The contents the stores of the codes leave. -/
def codesV (x : Vec F S256x3072 .f32) : Vec F S256x3072 .i8 := View.canon (codesL x)
/-- The contents the stores of the scales leave. -/
def scaleV (x : Vec F S256x3072 .f32) : Vec F S256x1 .f32 := View.canon (scaleL x)
/-- The contents the stores of the zero points leave. -/
def zpV (x : Vec F S256x3072 .f32) : Vec F S256x1 .i32 := View.canon (zpL x)
/-- The contents the stores of the shifted codes leave. -/
def shiftV (x : Vec F S256x3072 .f32) : Vec F S256x3072 .bf16 := View.canon (shiftL x)
/-- The four stores of the codes cover their whole block. -/
theorem codesL_cover (x : Vec F S256x3072 .f32) : ∀ y, ∃ p ∈ codesL x, y ∈ p.1.set :=
  fun y => View.cover_of_tiledL (codesL x) ![64, 3072] (by unfold codesL; sl_kernel_rfl) y
/-- The four stores of the scales cover their whole block. -/
theorem scaleL_cover (x : Vec F S256x3072 .f32) : ∀ y, ∃ p ∈ scaleL x, y ∈ p.1.set :=
  fun y => View.cover_of_tiledL (scaleL x) ![64, 1] (by unfold scaleL; sl_kernel_rfl) y
/-- The four stores of the zero points cover their whole block. -/
theorem zpL_cover (x : Vec F S256x3072 .f32) : ∀ y, ∃ p ∈ zpL x, y ∈ p.1.set :=
  fun y => View.cover_of_tiledL (zpL x) ![64, 1] (by unfold zpL; sl_kernel_rfl) y
/-- The four stores of the shifted codes cover their whole block. -/
theorem shiftL_cover (x : Vec F S256x3072 .f32) : ∀ y, ∃ p ∈ shiftL x, y ∈ p.1.set :=
  fun y => View.cover_of_tiledL (shiftL x) ![64, 3072] (by unfold shiftL; sl_kernel_rfl) y
/-- The tile of the product: from the shifted codes `a`, the scales `s`, and the tiles of the weights, weight scales and bias. -/
def yV (a : Vec F S256x3072 .bf16) (s : Vec F S256x1 .f32) (w : Vec F S3072x512 .i8) (ws b : Vec F S1x512 .f32) : Vec F S256x512 .f32 :=
  k0_pay1 (k0_pay36 (View.ld a (Rect.unit (s := S256x3072) ![0, 0] S256x512.size inb_S256x3072_S256x512_0_0)) (View.ld w (Rect.unit (s := S3072x512) ![0, 0] S512x512.size inb_S3072x512_S512x512_0_0)) (View.ld a (Rect.unit (s := S256x3072) ![0, 512] S256x512.size inb_S256x3072_S256x512_0_512)) (View.ld w (Rect.unit (s := S3072x512) ![512, 0] S512x512.size inb_S3072x512_S512x512_512_0)) (View.ld a (Rect.unit (s := S256x3072) ![0, 1024] S256x512.size inb_S256x3072_S256x512_0_1024)) (View.ld w (Rect.unit (s := S3072x512) ![1024, 0] S512x512.size inb_S3072x512_S512x512_1024_0)) (View.ld a (Rect.unit (s := S256x3072) ![0, 1536] S256x512.size inb_S256x3072_S256x512_0_1536)) (View.ld w (Rect.unit (s := S3072x512) ![1536, 0] S512x512.size inb_S3072x512_S512x512_1536_0)))
    (View.ld a (Rect.unit (s := S256x3072) ![0, 2048] S256x512.size inb_S256x3072_S256x512_0_2048)) (View.ld w (Rect.unit (s := S3072x512) ![2048, 0] S512x512.size inb_S3072x512_S512x512_2048_0))
    (View.ld a (Rect.unit (s := S256x3072) ![0, 2560] S256x512.size inb_S256x3072_S256x512_0_2560)) (View.ld w (Rect.unit (s := S3072x512) ![2560, 0] S512x512.size inb_S3072x512_S512x512_2560_0)) s ws b

/-- A store of the whole tile. -/
def yL (y : Vec F S256x512 .f32) : List (View.Piece (Elt F) S256x512 .f32) :=
  [⟨Rect.unit (s := S256x512) ![0, 0] S256x512.size inb_S256x512_S256x512_0_0, y⟩]

/-- The offset of a whole block is zero along both axes. -/
theorem hz : (![0, 0] : Fin 2 → Nat) = fun _ => 0 := funext fun a => by fin_cases a <;> rfl

/-- The one store of the product covers its block. -/
theorem yL_cover (y : Vec F S256x512 .f32) : ∀ j, ∃ p ∈ yL y, j ∈ p.1.set :=
  fun j => View.cover_of_tiledL (yL y) ![256, 512] (by unfold yL; sl_kernel_rfl) j

/-- The store of the whole tile leaves it. -/
theorem yL_canon (y : Vec F S256x512 .f32) : View.canon (yL y) = y := View.canon_unit_zero hz _ _

/-! ## The later groups of rows are computed as the first is -/

/-- The codes of the second group of rows are computed as the first group's. -/
theorem pay15_eq (X : Vec F S64x3072 .f32) : k0_pay15 X = k0_pay7 X := rfl
/-- The codes of the third group of rows are computed as the first group's. -/
theorem pay24_eq (X : Vec F S64x3072 .f32) : k0_pay24 (k0_pay22 X) = k0_pay7 X := rfl
/-- The codes of the fourth group of rows are computed as the first group's. -/
theorem pay33_eq (X : Vec F S64x3072 .f32) :
    k0_pay33 (k0_pay27 X) (k0_pay29 X) (k0_pay30 X) (FloatOps.ofBits FTy.f32 3271557120#32) = k0_pay7 X := rfl
/-- The scales of the second group of rows are computed as the first group's. -/
theorem pay12_eq (X : Vec F S64x3072 .f32) : k0_pay12 X = k0_pay4 X := rfl
/-- The scales of the third group of rows are computed as the first group's. -/
theorem pay20_eq (X : Vec F S64x3072 .f32) : k0_pay20 X = k0_pay4 X := rfl
/-- The scales of the fourth group of rows are computed as the first group's. -/
theorem pay29_eq (X : Vec F S64x3072 .f32) : k0_pay29 X = k0_pay4 X := rfl
/-- The zero points of the second group of rows are computed as the first group's. -/
theorem pay17_eq (X : Vec F S64x3072 .f32) : k0_pay17 (k0_pay13 X) = zpRows X := rfl
/-- The zero points of the third group of rows are computed as the first group's. -/
theorem pay26_eq (X : Vec F S64x3072 .f32) : k0_pay26 (k0_pay21 X) = zpRows X := rfl
/-- The zero points of the fourth group of rows are computed as the first group's. -/
theorem pay35_eq (X : Vec F S64x3072 .f32) :
    k0_pay35 (k0_pay30 X) (FloatOps.ofBits FTy.f32 3271557120#32) = zpRows X := rfl
/-- The shifted codes of the second group of rows are computed as the first group's. -/
theorem pay16_eq (X : Vec F S64x3072 .f32) : k0_pay16 (k0_pay13 X) (k0_pay14 X) = k0_pay8 X := rfl
/-- The shifted codes of the third group of rows are computed as the first group's. -/
theorem pay25_eq (X : Vec F S64x3072 .f32) : k0_pay25 (k0_pay21 X) (k0_pay22 X) = k0_pay8 X := rfl
/-- The shifted codes of the fourth group of rows are computed as the first group's. -/
theorem pay34_eq (X : Vec F S64x3072 .f32) :
    k0_pay34 (k0_pay27 X) (k0_pay29 X) (k0_pay30 X) (FloatOps.ofBits FTy.f32 3271557120#32) = k0_pay8 X := rfl

/-! ## The runs' pieces -/

/-- The tile with its scales and biases read through a load of the whole block. -/
theorem yV_loads (a : Vec F S256x3072 .bf16) (s : Vec F S256x1 .f32) (w : Vec F S3072x512 .i8) (ws b : Vec F S1x512 .f32) :
    yV a s w ws b = k0_pay1 (k0_pay36 (View.ld a (Rect.unit (s := S256x3072) ![0, 0] S256x512.size inb_S256x3072_S256x512_0_0)) (View.ld w (Rect.unit (s := S3072x512) ![0, 0] S512x512.size inb_S3072x512_S512x512_0_0)) (View.ld a (Rect.unit (s := S256x3072) ![0, 512] S256x512.size inb_S256x3072_S256x512_0_512)) (View.ld w (Rect.unit (s := S3072x512) ![512, 0] S512x512.size inb_S3072x512_S512x512_512_0)) (View.ld a (Rect.unit (s := S256x3072) ![0, 1024] S256x512.size inb_S256x3072_S256x512_0_1024)) (View.ld w (Rect.unit (s := S3072x512) ![1024, 0] S512x512.size inb_S3072x512_S512x512_1024_0)) (View.ld a (Rect.unit (s := S256x3072) ![0, 1536] S256x512.size inb_S256x3072_S256x512_0_1536)) (View.ld w (Rect.unit (s := S3072x512) ![1536, 0] S512x512.size inb_S3072x512_S512x512_1536_0)))
    (View.ld a (Rect.unit (s := S256x3072) ![0, 2048] S256x512.size inb_S256x3072_S256x512_0_2048)) (View.ld w (Rect.unit (s := S3072x512) ![2048, 0] S512x512.size inb_S3072x512_S512x512_2048_0))
    (View.ld a (Rect.unit (s := S256x3072) ![0, 2560] S256x512.size inb_S256x3072_S256x512_0_2560)) (View.ld w (Rect.unit (s := S3072x512) ![2560, 0] S512x512.size inb_S3072x512_S512x512_2560_0)) (View.ld s (Rect.unit (s := S256x1) ![0, 0] S256x1.size inb_S256x1_S256x1_0_0)) (View.ld ws (Rect.unit (s := S1x512) ![0, 0] S1x512.size inb_S1x512_S1x512_0_0)) (View.ld b (Rect.unit (s := S1x512) ![0, 0] S1x512.size inb_S1x512_S1x512_0_0)) := by
  rw [View.ld_unit_zero (S := S256x1) hz, View.ld_unit_zero (S := S1x512) hz, View.ld_unit_zero (S := S1x512) hz]
  rfl

/-- At the first point: the codes stores are these. -/
theorem runA_codes (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) :
    (kernelRun0_A c i a1 h1 a2 h2 a3 h3 a4 h4 a5 h5 a6 h6 a7 h7 a8 h8 a9 h9 hc x0 x1 x2 x3).2.1 = codesL x0 := by
  unfold kernelRun0_A
  dsimp only
  sl_unfold_words
  simp only [View.readAt_eq_ld, h1.read_unread, pay15_eq, pay24_eq, pay33_eq]
  rfl

/-- At the first point: the scale stores are these. -/
theorem runA_scale (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) :
    (kernelRun0_A c i a1 h1 a2 h2 a3 h3 a4 h4 a5 h5 a6 h6 a7 h7 a8 h8 a9 h9 hc x0 x1 x2 x3).2.2.1 = scaleL x0 := by
  unfold kernelRun0_A
  dsimp only
  sl_unfold_words
  simp only [View.readAt_eq_ld, h1.read_unread, pay12_eq, pay20_eq, pay29_eq]
  rfl

/-- At the first point: the zp stores are these. -/
theorem runA_zp (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) :
    (kernelRun0_A c i a1 h1 a2 h2 a3 h3 a4 h4 a5 h5 a6 h6 a7 h7 a8 h8 a9 h9 hc x0 x1 x2 x3).2.2.2.1 = zpL x0 := by
  unfold kernelRun0_A
  dsimp only
  sl_unfold_words
  simp only [View.readAt_eq_ld, h1.read_unread, pay17_eq, pay26_eq, pay35_eq]
  rfl

/-- At the first point: the shift stores are these. -/
theorem runA_shift (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) :
    (kernelRun0_A c i a1 h1 a2 h2 a3 h3 a4 h4 a5 h5 a6 h6 a7 h7 a8 h8 a9 h9 hc x0 x1 x2 x3).2.2.2.2.1 = shiftL x0 := by
  unfold kernelRun0_A
  dsimp only
  sl_unfold_words
  simp only [View.readAt_eq_ld, h1.read_unread, pay16_eq, pay25_eq, pay34_eq]
  rfl

/-- At the first point: the tile stored is the product of what was just stored. -/
theorem runA_y (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) :
    (kernelRun0_A c i a1 h1 a2 h2 a3 h3 a4 h4 a5 h5 a6 h6 a7 h7 a8 h8 a9 h9 hc x0 x1 x2 x3).1 = yL (yV (shiftV x0) (scaleV x0) x1 x2 x3) := by
  unfold kernelRun0_A
  dsimp only
  sl_unfold_words
  simp only [View.readAt_eq_ld, View.readCov_eq_canon', h1.read_unread, h2.read_unread, h3.read_unread, h4.read_unread,
    pay16_eq, pay25_eq, pay34_eq]
  rw [yV_loads]
  rfl

/-- At a later point: the tile stored is the product of what the scratch and the scale block hold. -/
theorem runB_y (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : ¬cond0_0 i)
    (x0 : Vec F S256x3072 .f32) (x1 : Vec F S3072x512 .i8) (x2 : Vec F S1x512 .f32) (x3 : Vec F S1x512 .f32) (xo5 : Vec F S256x3072 .i8) (xo6 : Vec F S256x1 .f32) (xo7 : Vec F S256x1 .i32) (xs0 : Vec F S256x3072 .bf16) :
    (kernelRun0_B c i a1 h1 a2 h2 a3 h3 a4 h4 a5 h5 a6 h6 a7 h7 a8 h8 a9 h9 hc x0 x1 x2 x3 xo5 xo6 xo7 xs0).1 = yL (yV xs0 xo6 x1 x2 x3) := by
  unfold kernelRun0_B
  dsimp only
  sl_unfold_words
  simp only [View.readAt_eq_ld, h2.read_unread, h3.read_unread, h4.read_unread, h7.read_unread, h9.read_unread]
  rw [View.ld_unit_zero (S := S256x1) hz, View.ld_unit_zero (S := S1x512) hz, View.ld_unit_zero (S := S1x512) hz]
  rfl
/-! ## What the runs' stores leave, read through the buffer -/

/-- What stores of `L` leave, read through a buffer, where `L` is the covering list `L'`. -/
theorem read_stores {S : Shape} {e : EltTy} (a : Memref sig .tc .vmem S e) (f) (L L' : List (View.Piece (Elt F) S e)) (h : L = L')
    (hc : ∀ y, ∃ p ∈ L', y ∈ p.1.set) : a.view.read (Elt F) (a.view.writes (Elt F) f L) = View.canon L' := by
  subst h; exact View.read_writes_eq_canon _ _ _ hc

/-- What the first point leaves where the codes are. -/
theorem readA_codes (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) (f) :
    a6.view.read (Elt F) (a6.view.writes (Elt F) f (kernelRun0_A c i a1 h1 a2 h2 a3 h3 a4 h4 a5 h5 a6 h6 a7 h7 a8 h8 a9 h9 hc x0 x1 x2 x3).2.1) = codesV x0 :=
  read_stores a6 f _ _ (runA_codes c i a1 h1 a2 h2 a3 h3 a4 h4 a5 h5 a6 h6 a7 h7 a8 h8 a9 h9 hc x0 x1 x2 x3) (codesL_cover x0)

/-- What the first point leaves where the scales are. -/
theorem readA_scale (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) (f) :
    a7.view.read (Elt F) (a7.view.writes (Elt F) f (kernelRun0_A c i a1 h1 a2 h2 a3 h3 a4 h4 a5 h5 a6 h6 a7 h7 a8 h8 a9 h9 hc x0 x1 x2 x3).2.2.1) = scaleV x0 :=
  read_stores a7 f _ _ (runA_scale c i a1 h1 a2 h2 a3 h3 a4 h4 a5 h5 a6 h6 a7 h7 a8 h8 a9 h9 hc x0 x1 x2 x3) (scaleL_cover x0)

/-- What the first point leaves where the zero points are. -/
theorem readA_zp (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) (f) :
    a8.view.read (Elt F) (a8.view.writes (Elt F) f (kernelRun0_A c i a1 h1 a2 h2 a3 h3 a4 h4 a5 h5 a6 h6 a7 h7 a8 h8 a9 h9 hc x0 x1 x2 x3).2.2.2.1) = zpV x0 :=
  read_stores a8 f _ _ (runA_zp c i a1 h1 a2 h2 a3 h3 a4 h4 a5 h5 a6 h6 a7 h7 a8 h8 a9 h9 hc x0 x1 x2 x3) (zpL_cover x0)

/-- What the first point leaves where the shifted codes are. -/
theorem readA_shift (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) (f) :
    a9.view.read (Elt F) (a9.view.writes (Elt F) f (kernelRun0_A c i a1 h1 a2 h2 a3 h3 a4 h4 a5 h5 a6 h6 a7 h7 a8 h8 a9 h9 hc x0 x1 x2 x3).2.2.2.2.1) = shiftV x0 :=
  read_stores a9 f _ _ (runA_shift c i a1 h1 a2 h2 a3 h3 a4 h4 a5 h5 a6 h6 a7 h7 a8 h8 a9 h9 hc x0 x1 x2 x3) (shiftL_cover x0)

/-- What the first point leaves where the product are. -/
theorem readA_y (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : cond0_0 i)
    (x0 : Vec F S256x3072 .f32) (x1 : Vec F S3072x512 .i8) (x2 : Vec F S1x512 .f32) (x3 : Vec F S1x512 .f32) (f) :
    a5.view.read (Elt F) (a5.view.writes (Elt F) f (kernelRun0_A c i a1 h1 a2 h2 a3 h3 a4 h4 a5 h5 a6 h6 a7 h7 a8 h8 a9 h9 hc x0 x1 x2 x3).1) = yV (shiftV x0) (scaleV x0) x1 x2 x3 :=
  (read_stores a5 f _ _ (runA_y c i a1 h1 a2 h2 a3 h3 a4 h4 a5 h5 a6 h6 a7 h7 a8 h8 a9 h9 hc x0 x1 x2 x3) (yL_cover _)).trans (yL_canon _)

/-- What a later point leaves where the product is. -/
theorem readB_y (c : Dev nD) (i : grid0.Coords) (a1 : Memref sig .tc .vmem S256x3072 .f32) (h1 : a1.IsWhole) (a2 : Memref sig .tc .vmem S3072x512 .i8) (h2 : a2.IsWhole) (a3 : Memref sig .tc .vmem S1x512 .f32) (h3 : a3.IsWhole) (a4 : Memref sig .tc .vmem S1x512 .f32) (h4 : a4.IsWhole) (a5 : Memref sig .tc .vmem S256x512 .f32) (h5 : a5.IsWhole) (a6 : Memref sig .tc .vmem S256x3072 .i8) (h6 : a6.IsWhole) (a7 : Memref sig .tc .vmem S256x1 .f32) (h7 : a7.IsWhole) (a8 : Memref sig .tc .vmem S256x1 .i32) (h8 : a8.IsWhole) (a9 : Memref sig .tc .vmem S256x3072 .bf16) (h9 : a9.IsWhole) (hc : ¬cond0_0 i)
    (x0 : Vec F S256x3072 .f32) (x1 : Vec F S3072x512 .i8) (x2 : Vec F S1x512 .f32) (x3 : Vec F S1x512 .f32) (xo5 : Vec F S256x3072 .i8) (xo6 : Vec F S256x1 .f32) (xo7 : Vec F S256x1 .i32) (xs0 : Vec F S256x3072 .bf16) (f) :
    a5.view.read (Elt F) (a5.view.writes (Elt F) f (kernelRun0_B c i a1 h1 a2 h2 a3 h3 a4 h4 a5 h5 a6 h6 a7 h7 a8 h8 a9 h9 hc x0 x1 x2 x3 xo5 xo6 xo7 xs0).1) = yV xs0 xo6 x1 x2 x3 :=
  (read_stores a5 f _ _ (runB_y c i a1 h1 a2 h2 a3 h3 a4 h4 a5 h5 a6 h6 a7 h7 a8 h8 a9 h9 hc x0 x1 x2 x3 xo5 xo6 xo7 xs0) (yL_cover _)).trans (yL_canon _)

end Cert.KernelIdeal.Hand

end
-- ==== Proof.Data.lean ====
/- What every buffer of the pipeline holds, point by point: the inputs their blocks, the product its tile, and the codes,
   scales and zero points, written at the first point only, what that point left. -/
module

public import proofs.«01_k».proof.Proof.Pieces

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def first : Fin cfg0.N := ⟨0, by rw [show cfg0.N = 16 from N_0]; decide⟩

/-- The input as the region finds it: its one block. -/
abbrev xBlk (c : Dev nD) : Vec F S256x3072 .f32 := iblk m c 0 first

/-- The tile of the product the body leaves at point `t`. -/
abbrev yBlk (c : Dev nD) (t : Fin cfg0.N) : Vec F S256x512 .f32 :=
  yV (shiftV (xBlk m c)) (scaleV (xBlk m c)) (iblk m c 1 t) (iblk m c 2 t) (iblk m c 3 t)

/-- What holds between the points: before the first the scratch at anything, after it the scratch at the shifted codes. -/
def PhiS (c : Dev nD) : (n : ℕ) → n ≤ cfg0.N → sProp 𝕄
  | 0, _ => Pipeline.ΦA spec0 c
  | n + 1, hn => iprop(iprop(owns (c : Thread nD τ) scM0_0 fullShare (shiftV (xBlk m c))) ∗ (∃ r, prngReg c r))

/-- The invariant before the first point is what the launch hands over. -/
theorem PhiS_zero (c : Dev nD) (n : ℕ) (h : n ≤ cfg0.N) (hz : n = 0) : PhiS m c n h = Pipeline.ΦA spec0 c := by
  subst hz; rfl

/-- The invariant after a point: the scratch holds the shifted codes of the whole input. -/
theorem PhiS_succ (c : Dev nD) (n : ℕ) (hn : n < cfg0.N) :
    PhiS m c (n + 1) hn = iprop(iprop(owns (c : Thread nD τ) scM0_0 fullShare (shiftV (xBlk m c))) ∗ (∃ r, prngReg c r)) := rfl

/-- The invariant anywhere but before the first point: the scratch holds the shifted codes of the whole input. -/
theorem PhiS_pos (c : Dev nD) (n : ℕ) (h : n ≤ cfg0.N) (hz : n ≠ 0) :
    PhiS m c n h = iprop(iprop(owns (c : Thread nD τ) scM0_0 fullShare (shiftV (xBlk m c))) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlk m c t
    | ⟨5, _⟩ => codesV (xBlk m c)
    | ⟨6, _⟩ => scaleV (xBlk m c)
    | ⟨7, _⟩ => zpV (xBlk m c)
  Φ t := PhiS m c t.val (Nat.le_of_lt_succ t.isLt)
  q _ := fullShare
  owed _ := 0

/-- The proof data's arrays are the region's entry contents. -/
theorem A_eq (c : Dev nD) (w : Fin cfg0.W) : (dats m 0 c).A w = V m c (Pipeline.arrRef spec0 w) := by
  dsimp only [dats]

/-- The invariant before a point, at the number of the point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## What the body leaves and finds, window by window -/

/-- A point leaves the block of the input as it found it. -/
theorem after0_0 (c : Dev nD) (t : Fin cfg0.N) : (dats m 0 c).after 0 t = iblk m c 0 t := by dsimp only [dats]
/-- A point leaves the block of the weights as it found it. -/
theorem after0_1 (c : Dev nD) (t : Fin cfg0.N) : (dats m 0 c).after 1 t = iblk m c 1 t := by dsimp only [dats]
/-- A point leaves the block of the weights' scales as it found it. -/
theorem after0_2 (c : Dev nD) (t : Fin cfg0.N) : (dats m 0 c).after 2 t = iblk m c 2 t := by dsimp only [dats]
/-- A point leaves the block of the bias as it found it. -/
theorem after0_3 (c : Dev nD) (t : Fin cfg0.N) : (dats m 0 c).after 3 t = iblk m c 3 t := by dsimp only [dats]
/-- A point leaves its tile of the product in output block 0. -/
theorem after0_4 (c : Dev nD) (t : Fin cfg0.N) : (dats m 0 c).after 4 t = yBlk m c t := by dsimp only [dats]
/-- A point leaves the codes of the whole input in output block 1. -/
theorem after0_5 (c : Dev nD) (t : Fin cfg0.N) : (dats m 0 c).after 5 t = codesV (xBlk m c) := by dsimp only [dats]
/-- A point leaves the scales of the whole input in output block 2. -/
theorem after0_6 (c : Dev nD) (t : Fin cfg0.N) : (dats m 0 c).after 6 t = scaleV (xBlk m c) := by dsimp only [dats]
/-- A point leaves the zero points of the whole input in output block 3. -/
theorem after0_7 (c : Dev nD) (t : Fin cfg0.N) : (dats m 0 c).after 7 t = zpV (xBlk m c) := by dsimp only [dats]
/-- A point finds in the block of the input the part of the array that its window names. -/
theorem before0_0 (c : Dev nD) (t : Fin cfg0.N) (d) : (dats m 0 c).before 0 t d = iblk m c 0 t :=
  before0_0_of m (dats m 0 c) (A_eq m c 0) (after0_0 m c) t d
/-- A point finds in the block of the weights the part of the array that its window names. -/
theorem before0_1 (c : Dev nD) (t : Fin cfg0.N) (d) : (dats m 0 c).before 1 t d = iblk m c 1 t :=
  before0_1_of m (dats m 0 c) (A_eq m c 1) (after0_1 m c) t d
/-- A point finds in the block of the weights' scales the part of the array that its window names. -/
theorem before0_2 (c : Dev nD) (t : Fin cfg0.N) (d) : (dats m 0 c).before 2 t d = iblk m c 2 t :=
  before0_2_of m (dats m 0 c) (A_eq m c 2) (after0_2 m c) t d
/-- A point finds in the block of the bias the part of the array that its window names. -/
theorem before0_3 (c : Dev nD) (t : Fin cfg0.N) (d) : (dats m 0 c).before 3 t d = iblk m c 3 t :=
  before0_3_of m (dats m 0 c) (A_eq m c 3) (after0_3 m c) t d

/-- An output kept over the run: if the body leaves the same `v` at every point, the window is live at the first point only, is
    uncut and is not written back before the last point, then at every later point its buffer holds `v` before the body. -/
theorem before_kept (c : Dev nD) (w : Fin cfg0.W) (v) (hw : (cfg0.win w).isOut = true)
    (hv : ∀ t, (dats m 0 c).after w t = v)
    (hidle : ∀ t : Fin cfg0.N, cfg0.idle w (grid0.coords t) = !(k0_cond1 (grid0.coords t) == 1#1))
    (hfl : ∀ t : Fin cfg0.N, (cfg0.win w).flush t = true ↔ t.val % 16 = 15)
    (hclip : ∀ (i : cfg0.grid.Coords) a, (cfg0.win w).clip i a = none) :
    ∀ (n : ℕ) (h : n < cfg0.N), n ≠ 0 → ∀ d, (dats m 0 c).before w ⟨n, h⟩ d = v := by
  have hN : cfg0.N = 16 := N_0
  intro n
  induction n with
  | zero => exact fun _ h => absurd rfl h
  | succ n ih =>
    intro h _ d
    rw [Dat.before_of_pos _ w ⟨n + 1, h⟩ (Nat.succ_ne_zero n) ((cfg0.win w).fetch_out hw _)]
    have hlt : n < cfg0.N := Nat.lt_of_succ_lt h
    have e : (⟨(⟨n + 1, h⟩ : Fin cfg0.N).val - 1, Nat.lt_of_le_of_lt (Nat.sub_le _ _) (⟨n + 1, h⟩ : Fin cfg0.N).isLt⟩ : Fin cfg0.N) = ⟨n, hlt⟩ := rfl
    rw [e]
    have hf : (cfg0.win w).flush ⟨n, hlt⟩ = false := Bool.eq_false_iff.mpr fun h' => by
      have := (hfl _).mp h'; dsimp only at this; omega
    rw [hf, if_neg Bool.false_ne_true]
    unfold Dat.left
    by_cases hn : n = 0
    · have hi : cfg0.idle w (cfg0.grid.coords ⟨n, hlt⟩) = false := by
        refine (hidle ⟨n, hlt⟩).trans ?_
        have : cond0_0 (grid0.coords ⟨n, hlt⟩) := (hcond0_0 _).mpr (by show n % 16 = 0; omega)
        rw [show k0_cond1 (grid0.coords ⟨n, hlt⟩) = 1#1 from this]; rfl
      rw [hi]
      show (dats m 0 c).kept w ⟨n, hlt⟩ d = v
      unfold Dat.kept
      rw [Pipeline.fill_of_clip_none w _ (hclip _) d ((dats m 0 c).after w _), Pipeline.Window.fill_cut, hv]
    · have hi : cfg0.idle w (cfg0.grid.coords ⟨n, hlt⟩) = true := by
        refine (hidle ⟨n, hlt⟩).trans ?_
        have : ¬cond0_0 (grid0.coords ⟨n, hlt⟩) := fun h' => by
          have := (hcond0_0 _).mp h'; dsimp only at this; omega
        rw [Bool.not_eq_true', beq_eq_false_iff_ne]; exact this
      rw [hi]
      exact ih hlt hn d

/-- After the first point output 5's buffer holds what the first point left. -/
theorem before0_5 (c : Dev nD) (t : Fin cfg0.N) (h0 : t.val ≠ 0) (d) : (dats m 0 c).before 5 t d = codesV (xBlk m c) :=
  before_kept m c 5 _ rfl (after0_5 m c) idle0_5 flush0_5 (fun _ _ => rfl) t.val t.isLt h0 d

/-- After the first point output 6's buffer holds what the first point left. -/
theorem before0_6 (c : Dev nD) (t : Fin cfg0.N) (h0 : t.val ≠ 0) (d) : (dats m 0 c).before 6 t d = scaleV (xBlk m c) :=
  before_kept m c 6 _ rfl (after0_6 m c) idle0_6 flush0_6 (fun _ _ => rfl) t.val t.isLt h0 d

/-- After the first point output 7's buffer holds what the first point left. -/
theorem before0_7 (c : Dev nD) (t : Fin cfg0.N) (h0 : t.val ≠ 0) (d) : (dats m 0 c).before 7 t d = zpV (xBlk m c) :=
  before_kept m c 7 _ rfl (after0_7 m c) idle0_7 flush0_7 (fun _ _ => rfl) t.val t.isLt h0 d

/-- A buffer holding what the body is to leave is a buffer left as the pipeline asks, where an idle point finds that already. -/
theorem leaves_of (c : Dev nD) (w : Fin cfg0.W) (t : Fin cfg0.N)
    (h : cfg0.idle w (cfg0.grid.coords t) = true → ∀ d, (dats m 0 c).before w t d = (dats m 0 c).after w t) :
    (owns (c : Thread nD τ) ((cfg0.win w).stage (cfg0.slots t w)) fullShare ((dats m 0 c).after w t) : sProp 𝕄)
      ⊢ (dats m 0 c).leavesExact w t := by
  unfold Dat.leavesExact
  cases hi : cfg0.idle w (cfg0.grid.coords t) with
  | false => exact .rfl
  | true =>
    cases hf : (cfg0.win w).flush t with
    | true => exact .rfl
    | false =>
      have := h hi ((dats m 0 c).after w t)
      show _ ⊢ iprop(∃ d, owns (c : Thread nD τ) ((cfg0.win w).stage (cfg0.slots t w)) fullShare ((dats m 0 c).before w t d))
      iintro H
      iexists ((dats m 0 c).after w t)
      rw [this]
      iexact H

/-- An idle point is not the first. -/
theorem pos_of_idle (t : Fin cfg0.N) (h : (!(k0_cond1 (grid0.coords t) == 1#1)) = true) : t.val ≠ 0 := by
  intro h0
  have : cond0_0 (grid0.coords t) := (hcond0_0 t).mpr (by rw [h0])
  rw [show k0_cond1 (grid0.coords t) = 1#1 from this] at h
  exact absurd h (by decide)

/-- What a point that does not write the codes leaves in their block. -/
theorem leaves0_5 (c : Dev nD) (t : Fin cfg0.N) :
    (owns (c : Thread nD τ) (ms0_5 t) fullShare ((dats m 0 c).after 5 t) : sProp 𝕄) ⊢ (dats m 0 c).leavesExact 5 t :=
  leaves_of m c 5 t fun h d => (before0_5 m c t (pos_of_idle t ((idle0_5 t).symm.trans h)) d).trans (after0_5 m c t).symm

/-- What a point that does not write the scales leaves in their block. -/
theorem leaves0_6 (c : Dev nD) (t : Fin cfg0.N) :
    (owns (c : Thread nD τ) (ms0_6 t) fullShare ((dats m 0 c).after 6 t) : sProp 𝕄) ⊢ (dats m 0 c).leavesExact 6 t :=
  leaves_of m c 6 t fun h d => (before0_6 m c t (pos_of_idle t ((idle0_6 t).symm.trans h)) d).trans (after0_6 m c t).symm

/-- What a point that does not write the zero points leaves in their block. -/
theorem leaves0_7 (c : Dev nD) (t : Fin cfg0.N) :
    (owns (c : Thread nD τ) (ms0_7 t) fullShare ((dats m 0 c).after 7 t) : sProp 𝕄) ⊢ (dats m 0 c).leavesExact 7 t :=
  leaves_of m c 7 t fun h d => (before0_7 m c t (pos_of_idle t ((idle0_7 t).symm.trans h)) d).trans (after0_7 m c t).symm

end Cert.KernelIdeal.Hand

end
-- ==== Proof.Body.lean ====
/- The body at any point: from what the pipeline hands it to what the pipeline asks back. -/
module

public import proofs.«01_k».proof.Proof.Data

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t
    ∗ (dats m 0 c).leavesExact 7 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 16 := lt_of_lt_of_eq t.isLt (show cfg0.N = 16 from N_0)
  by_cases hz : t.val = 0
  · obtain rfl : t = first := Fin.ext hz
    rw [PhiS_castSucc m c first, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords first) _ (hs0_0 first) _ (hs0_1 first) _ (hs0_2 first) _ (hs0_3 first) _ (hs0_4 first) _ (hs0_5 first) _ (hs0_6 first) _ (hs0_7 first) _ (Memref.isWhole_whole _) ((hcond0_0 first).mpr rfl) (iblk m c 0 first) (iblk m c 1 first) (iblk m c 2 first) (iblk m c 3 first)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    iintro ⟨H0, H1, H2, H3, ⟨%e4, H4⟩, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact readA_shift ..
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact readA_y ..
    isplitl [H5]
    · iapply leaves0_5 m c first
      rw [after0_5]
      unfold owns; iexists _; isplitr
      swap; · iexact H5
      ipureintro; exact readA_codes ..
    isplitl [H6]
    · iapply leaves0_6 m c first
      rw [after0_6]
      unfold owns; iexists _; isplitr
      swap; · iexact H6
      ipureintro; exact readA_scale ..
    iapply leaves0_7 m c first
    rw [after0_7]
    unfold owns; iexists _; isplitr
    swap; · iexact H7
    ipureintro; exact readA_zp ..
  · rw [PhiS_castSucc m c t, PhiS_pos m c _ _ hz]
    simp only [before0_5 m c t hz, before0_6 m c t hz, before0_7 m c t hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ (hs0_0 t) _ (hs0_1 t) _ (hs0_2 t) _ (hs0_3 t) _ (hs0_4 t) _ (hs0_5 t) _ (hs0_6 t) _ (hs0_7 t) _ (Memref.isWhole_whole _) (fun h => by have := (hcond0_0 t).mp h; omega) (iblk m c 0 t) (iblk m c 1 t) (iblk m c 2 t) (iblk m c 3 t) (codesV (xBlk m c)) (scaleV (xBlk m c)) (zpV (xBlk m c)) (shiftV (xBlk m c))).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    iintro ⟨H0, H1, H2, H3, ⟨%e4, H4⟩, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact readB_y ..
    isplitl [H5]
    · iapply leaves0_5 m c t
      rw [after0_5]
      iexact H5
    isplitl [H6]
    · iapply leaves0_6 m c t
      rw [after0_6]
      iexact H6
    iapply leaves0_7 m c t
    rw [after0_7]
    iexact H7

end Cert.KernelIdeal.Hand

end
-- ==== Proof.Launched.lean ====
/- The run of the kernel: it terminates, leaves its arguments unchanged and every array as the data say. -/
module

public import proofs.«01_k».proof.Proof.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame of the kernel: the arguments end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Frames.lean ====
/- The frames of the three programs, in the form the claim asks: they terminate, their arguments end unchanged and every
   semaphore counter ends at zero. -/
module

public import proofs.«01_k».proof.Defs
public import proofs.«01_k».proof.Proof.Launched
public import proofs.«01_k».proof.Proof.Gen.ReferenceIdeal.Run
public import Idealize.ShloMosaic.Lib.Quiescent

@[expose] public section

set_option maxRecDepth 100000

noncomputable section

namespace Cert.Frames

open Idealize.ShloMosaic Idealize.SL.Sem

/-- The kernel's frame at the extended reals. -/
theorem kernel_ideal (h : Cert.KernelIdeal.Facts) : Cert.quiescent_KernelIdeal (hKernelIdeal := h) :=
  fun m ρ _ => Cert.KernelIdeal.Hand.frame m ρ

/-- The reference's frame: it declares no semaphore. -/
theorem reference_ideal (h : Cert.ReferenceIdeal.Facts) : Cert.quiescent_ReferenceIdeal (hReferenceIdeal := h) :=
  fun m ρ _ => (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

/-- The printed kernel and the kernel as idealized are the same program text: the body tables agree at the bit patterns. -/
theorem bodies_eq [Cert.Kernel.Facts] [Cert.KernelIdeal.Facts] :
    Cert.Kernel.defs₀ (F := Bits) = Cert.KernelIdeal.defs₀ (F := Bits) := by
  unfold Cert.Kernel.defs₀ Cert.KernelIdeal.defs₀
  refine congrArg Defs.onTc (funext fun l => funext fun a => ?_)
  obtain ⟨_ | n, hl⟩ := l
  · rfl
  · exact absurd hl (Nat.not_lt.2 (Nat.le_add_left _ _))

/-- The printed kernel's frame: the frame of the idealized text holds over any floats, so over the bit patterns too. -/
theorem kernel (h : Cert.Kernel.Facts) (h' : Cert.KernelIdeal.Facts) : Cert.quiescent_Kernel (hKernel := h) := by
  intro m ρ _
  have run := Cert.KernelIdeal.Hand.frame (F := Bits) m ρ
  have e : Cert.Kernel.defs (F := Bits) = Cert.KernelIdeal.defs (F := Bits) :=
    congrArg (Idealize.ShloMosaic.Pipeline.defs Cert.KernelIdeal.pcfgs) bodies_eq
  rw [← e] at run
  exact run

end Cert.Frames

end
-- ==== Proof.Quant.lean ====
/- The quantiser of one row and the integer accumulator, written plainly over the extended reals: the range of the row
   widened to contain zero, its scale, its zero point, its codes, and the shifted integer product with a column of weights.
   Both programs are read as these functions. -/
module

public import Idealize.ShloMosaic.Lib.Pointwise
public import Mathlib.Data.BitVec

@[expose] public section

noncomputable section

namespace Cert.Quant

open Idealize.ShloMosaic

/-- A row of the input. -/
abbrev Row := Fin 3072 → EReal
/-- A column of the weights. -/
abbrev Col := Fin 3072 → BitVec 8

/-- The least element of a row, or zero. -/
def lo (r : Row) : EReal := min ((Finset.univ : Finset (Fin 3072)).fold min ⊤ r) 0
/-- The greatest element of a row, or zero. -/
def hi (r : Row) : EReal := max ((Finset.univ : Finset (Fin 3072)).fold max ⊥ r) 0
/-- The scale of a row: its range in 255 steps, and one if the range is a point. -/
def scale (r : Row) : EReal := if hi r = lo r then 1 else Ideal.div (hi r - lo r) ((255 : ℝ) : EReal)
/-- To the nearest integer, ties to even. -/
def rnd (x : EReal) : EReal := Ideal.liftRound Ideal.roundHalfEven x
/-- The nearest value of the interval from -128 to 127. -/
def clip (x : EReal) : EReal := min ((127 : ℝ) : EReal) (max ((-128 : ℝ) : EReal) x)
/-- The zero point of a row, as a number. -/
def zpF (r : Row) : EReal := clip (rnd (((-128 : ℝ) : EReal) - Ideal.div (lo r) (scale r)))
/-- The code of the element at `k` of a row, as a number. -/
def codeF (r : Row) (k : Fin 3072) : EReal := clip (rnd (Ideal.div (r k) (scale r)) + zpF r)
/-- The zero point of a row, as a word. -/
def zp (r : Row) : BitVec 32 := Ideal.fptosi 32 (zpF r)
/-- The code of the element at `k` of a row, as a word. -/
def code (r : Row) (k : Fin 3072) : BitVec 8 := (Ideal.fptosi 32 (codeF r k)).setWidth 8
/-- The product of the codes of a row with a column of weights, less the zero point times the sum of the column. -/
def acc (r : Row) (w : Col) : BitVec 32 :=
  (∑ k, (code r k).signExtend 32 * (w k).signExtend 32) - zp r * ∑ k, (w k).signExtend 32
/-- One element of the result: the accumulator in the row's and the column's scale, with the bias. -/
def out (r : Row) (w : Col) (ws b : EReal) : EReal := (((acc r w).toInt : ℝ) : EReal) * (scale r * ws) + b

/-! ## The constants the programs print -/

/-- The bits of the upper infinity. -/
theorem bits_top : Ideal.ofBits .f32 0x7F800000#32 = ⊤ := by simp [Ideal.ofBits, Ideal.ieee]
/-- The bits of the lower infinity. -/
theorem bits_bot : Ideal.ofBits .f32 0xFF800000#32 = ⊥ := by simp [Ideal.ofBits, Ideal.ieee]
/-- The bits of zero. -/
theorem bits_zero : Ideal.ofBits .f32 0x00000000#32 = 0 := by simp [Ideal.ofBits, Ideal.ieee]
/-- The bits of one. -/
theorem bits_one : Ideal.ofBits .f32 0x3F800000#32 = 1 := by simp [Ideal.ofBits, Ideal.ieee, -EReal.coe_mul]; norm_num
/-- The bits of 255. -/
theorem bits_255 : Ideal.ofBits .f32 0x437F0000#32 = ((255 : ℝ) : EReal) := by simp [Ideal.ofBits, Ideal.ieee, -EReal.coe_mul]; norm_num
/-- The bits of 127. -/
theorem bits_127 : Ideal.ofBits .f32 0x42FE0000#32 = ((127 : ℝ) : EReal) := by simp [Ideal.ofBits, Ideal.ieee, -EReal.coe_mul]; norm_num
/-- The bits of -128. -/
theorem bits_m128 : Ideal.ofBits .f32 0xC3000000#32 = ((-128 : ℝ) : EReal) := by simp [Ideal.ofBits, Ideal.ieee, -EReal.coe_mul]; norm_num

/-! ## The clipped roundings are small integers -/

/-- A rounded value is an integer or an infinity. -/
theorem rnd_cases (x : EReal) : rnd x = ⊥ ∨ rnd x = ⊤ ∨ ∃ n : ℤ, rnd x = ((n : ℝ) : EReal) := by
  unfold rnd
  induction x with
  | bot => exact .inl rfl
  | top => exact .inr (.inl rfl)
  | coe r => exact .inr (.inr ⟨Ideal.roundHalfEven r, rfl⟩)

/-- The clip of the lower infinity is -128. -/
theorem clip_bot : clip ⊥ = (((-128 : ℤ) : ℝ) : EReal) := by
  unfold clip; rw [max_eq_left bot_le, min_eq_right (by exact_mod_cast (by norm_num : (-128:ℝ) ≤ 127))]; norm_num
/-- The clip of the upper infinity is 127. -/
theorem clip_top : clip ⊤ = (((127 : ℤ) : ℝ) : EReal) := by
  unfold clip; rw [max_eq_right le_top, min_eq_left le_top]; norm_num
/-- The clip of an integer is an integer. -/
theorem clip_int (n : ℤ) : clip ((n : ℝ) : EReal) = ((((min 127 (max (-128) n) : ℤ)) : ℝ) : EReal) := by
  unfold clip
  have mono := EReal.coe_strictMono.monotone
  rw [← mono.map_max, ← mono.map_min]; push_cast; rfl

/-- The clip of an integer or an infinity is an integer from -128 to 127. -/
theorem clip_cases {x : EReal} (h : x = ⊥ ∨ x = ⊤ ∨ ∃ n : ℤ, x = ((n : ℝ) : EReal)) :
    ∃ n : ℤ, clip x = ((n : ℝ) : EReal) ∧ -128 ≤ n ∧ n ≤ 127 := by
  rcases h with rfl | rfl | ⟨n, rfl⟩
  · exact ⟨-128, clip_bot, by norm_num, by norm_num⟩
  · exact ⟨127, clip_top, by norm_num, by norm_num⟩
  · exact ⟨_, clip_int n, by omega, by omega⟩

/-- The zero point is an integer from -128 to 127. -/
theorem zpF_int (r : Row) : ∃ n : ℤ, zpF r = ((n : ℝ) : EReal) ∧ -128 ≤ n ∧ n ≤ 127 := clip_cases (rnd_cases _)

/-- Each code is an integer from -128 to 127. -/
theorem codeF_int (r : Row) (k : Fin 3072) : ∃ n : ℤ, codeF r k = ((n : ℝ) : EReal) ∧ -128 ≤ n ∧ n ≤ 127 := by
  obtain ⟨z, hz, -, -⟩ := zpF_int r
  refine clip_cases ?_
  rw [hz]
  rcases rnd_cases (Ideal.div (r k) (scale r)) with h | h | ⟨n, h⟩ <;> rw [h]
  · exact .inl (by simp)
  · exact .inr (.inl (by simp))
  · exact .inr (.inr ⟨n + z, by push_cast; rfl⟩)

/-- The word of an integer that a word of 32 bits can hold. -/
theorem fptosi_int {n : ℤ} (h₁ : -2 ^ 31 ≤ n) (h₂ : n < 2 ^ 31) : Ideal.fptosi 32 ((n : ℝ) : EReal) = BitVec.ofInt 32 n := by
  unfold Ideal.fptosi
  congr 1
  show max _ (min _ (if (0:ℝ) ≤ n then ⌊(n:ℝ)⌋ else ⌈(n:ℝ)⌉)) = n
  rw [Int.floor_intCast, Int.ceil_intCast, ite_self]
  norm_num
  omega

/-- The word of an integer that a word of 32 bits can hold, read back. -/
theorem toInt_ofInt {n : ℤ} (h₁ : -2 ^ 31 ≤ n) (h₂ : n < 2 ^ 31) : (BitVec.ofInt 32 n).toInt = n := by
  rw [BitVec.toInt_ofInt, Int.bmod_eq_of_le (by omega) (by omega)]

/-- The zero point's word read back is the zero point. -/
theorem zp_toInt (r : Row) : (((zp r).toInt : ℝ) : EReal) = zpF r := by
  obtain ⟨n, h, h₁, h₂⟩ := zpF_int r
  unfold zp
  rw [h, fptosi_int (by omega) (by omega), toInt_ofInt (by omega) (by omega)]

/-- Rounding an integer changes nothing. -/
theorem rnd_int (n : ℤ) : rnd ((n : ℝ) : EReal) = ((n : ℝ) : EReal) := by
  show (((Ideal.roundHalfEven (n : ℝ) : ℤ) : ℝ) : EReal) = _
  congr 2
  unfold Ideal.roundHalfEven
  simp

end Cert.Quant

end
-- ==== Proof.Words.lean ====
/- The integer side of the product: a sum of 512 products of a shifted code with a weight is a small integer, so rounding it
   and taking its word loses nothing, and six such words add up to the accumulator. -/
module

public import proofs.«01_k».proof.Proof.Quant

@[expose] public section

noncomputable section

namespace Cert.Quant

open Idealize.ShloMosaic

/-- The word of a sum is the sum of the words. -/
theorem ofInt_sum {ι : Type} (s : Finset ι) (f : ι → ℤ) : BitVec.ofInt 32 (∑ k ∈ s, f k) = ∑ k ∈ s, BitVec.ofInt 32 (f k) := by
  classical
  induction s using Finset.induction_on with
  | empty => rfl
  | insert a s h ih => rw [Finset.sum_insert h, Finset.sum_insert h, BitVec.ofInt_add, ih]

/-- A sum of integers, as an extended real. -/
theorem coe_sum {ι : Type} (s : Finset ι) (f : ι → ℤ) :
    ∑ k ∈ s, (((f k : ℤ) : ℝ) : EReal) = (((∑ k ∈ s, f k : ℤ) : ℝ) : EReal) := by
  classical
  induction s using Finset.induction_on with
  | empty => simp
  | insert a s h ih => rw [Finset.sum_insert h, Finset.sum_insert h, ih]; push_cast; rfl

/-- A code's word, widened, is the word of the integer it is. -/
theorem code_word {r : Row} {k : Fin 3072} {n : ℤ} (h : codeF r k = ((n : ℝ) : EReal)) (h₁ : -128 ≤ n) (h₂ : n ≤ 127) :
    (code r k).signExtend 32 = BitVec.ofInt 32 n := by
  unfold code
  rw [h, fptosi_int (by omega) (by omega)]
  show BitVec.ofInt 32 _ = _
  congr 1
  rw [BitVec.toInt_setWidth, BitVec.toNat_ofInt]
  rw [Int.bmod_def]
  omega

/-- The zero point's word is the word of the integer it is. -/
theorem zp_word {r : Row} {n : ℤ} (h : zpF r = ((n : ℝ) : EReal)) (h₁ : -128 ≤ n) (h₂ : n ≤ 127) :
    zp r = BitVec.ofInt 32 n := by
  unfold zp
  rw [h, fptosi_int (by omega) (by omega)]

/-- The word a sum of 512 products is rounded to is the sum of the products of the words. -/
theorem chunk (n : Fin 512 → ℤ) (v : Fin 512 → BitVec 8) (hn : ∀ k, -255 ≤ n k ∧ n k ≤ 255) :
    Ideal.fptosi 32 (rnd (∑ k, (((n k : ℤ) : ℝ) : EReal) * (((v k).toInt : ℝ) : EReal))) =
      ∑ k, BitVec.ofInt 32 (n k) * (v k).signExtend 32 := by
  have each : ∀ k, (((n k : ℤ) : ℝ) : EReal) * (((v k).toInt : ℝ) : EReal) = (((n k * (v k).toInt : ℤ) : ℝ) : EReal) := by
    intro k; push_cast; rfl
  have small : ∀ k, |n k * (v k).toInt| ≤ 32640 := by
    intro k
    have hv₁ := BitVec.le_toInt (v k)
    have hv₂ := BitVec.toInt_lt (x := v k)
    have a : |n k| ≤ 255 := abs_le.mpr (hn k)
    have b : |(v k).toInt| ≤ 128 := abs_le.mpr ⟨by omega, by omega⟩
    calc |n k * (v k).toInt| = |n k| * |(v k).toInt| := abs_mul _ _
      _ ≤ 255 * 128 := mul_le_mul a b (abs_nonneg _) (by norm_num)
      _ = 32640 := by norm_num
  have total : |∑ k, n k * (v k).toInt| ≤ 16711680 := by
    refine (Finset.abs_sum_le_sum_abs _ _).trans ((Finset.sum_le_sum fun k _ => small k).trans ?_)
    simp
  have t := abs_le.mp total
  rw [Finset.sum_congr rfl fun k _ => each k, coe_sum, rnd_int, fptosi_int (by omega) (by omega), ofInt_sum]
  refine Finset.sum_congr rfl fun k _ => ?_
  rw [BitVec.ofInt_mul]
  rfl

/-- A sum over 3072 in six parts of 512. -/
theorem sum_parts (f : Fin 3072 → BitVec 32) :
    ∑ k, f k = (∑ k : Fin 512, f ⟨k, by omega⟩) + (∑ k : Fin 512, f ⟨512 + k, by omega⟩) + (∑ k : Fin 512, f ⟨1024 + k, by omega⟩)
      + (∑ k : Fin 512, f ⟨1536 + k, by omega⟩) + (∑ k : Fin 512, f ⟨2048 + k, by omega⟩) + ∑ k : Fin 512, f ⟨2560 + k, by omega⟩ := by
  refine (Fin.sum_univ_add (a := 2560) (b := 512) f).trans (congrArg₂ (· + ·) ?_ rfl)
  refine (Fin.sum_univ_add (a := 2048) (b := 512) _).trans (congrArg₂ (· + ·) ?_ rfl)
  refine (Fin.sum_univ_add (a := 1536) (b := 512) _).trans (congrArg₂ (· + ·) ?_ rfl)
  refine (Fin.sum_univ_add (a := 1024) (b := 512) _).trans (congrArg₂ (· + ·) ?_ rfl)
  exact Fin.sum_univ_add (a := 512) (b := 512) _

/-- The accumulator is the sum of the shifted codes' words times the weights'. -/
theorem acc_eq (r : Row) (w : Col) (n : Fin 3072 → ℤ) (z : ℤ)
    (hn : ∀ k, codeF r k = ((n k : ℝ) : EReal) ∧ -128 ≤ n k ∧ n k ≤ 127)
    (hz : zpF r = ((z : ℝ) : EReal) ∧ -128 ≤ z ∧ z ≤ 127) :
    acc r w = ∑ k, BitVec.ofInt 32 (n k - z) * (w k).signExtend 32 := by
  unfold acc
  rw [zp_word hz.1 hz.2.1 hz.2.2, Finset.mul_sum, ← Finset.sum_sub_distrib]
  refine Finset.sum_congr rfl fun k _ => ?_
  have e : BitVec.ofInt 32 (n k - z) = BitVec.ofInt 32 (n k) - BitVec.ofInt 32 z :=
    eq_sub_of_add_eq (by rw [← BitVec.ofInt_add, sub_add_cancel])
  rw [code_word (hn k).1 (hn k).2.1 (hn k).2.2, e, sub_mul]

/-- One part of the product: 512 shifted codes against 512 weights, added, rounded, and taken as a word. -/
def part (a : Fin 512 → EReal) (v : Fin 512 → BitVec 8) : BitVec 32 :=
  Ideal.fptosi 32 (rnd (∑ k, a k * (((v k).toInt : ℝ) : EReal)))

/-- Six parts of the product of the shifted codes of a row with a column of weights are the accumulator. -/
theorem acc_parts (r : Row) (w : Col) (a : Fin 3072 → EReal) (ha : ∀ k, a k = codeF r k - zpF r) :
    part (fun k => a ⟨k, by omega⟩) (fun k => w ⟨k, by omega⟩)
      + part (fun k => a ⟨512 + k, by omega⟩) (fun k => w ⟨512 + k, by omega⟩)
      + part (fun k => a ⟨1024 + k, by omega⟩) (fun k => w ⟨1024 + k, by omega⟩)
      + part (fun k => a ⟨1536 + k, by omega⟩) (fun k => w ⟨1536 + k, by omega⟩)
      + part (fun k => a ⟨2048 + k, by omega⟩) (fun k => w ⟨2048 + k, by omega⟩)
      + part (fun k => a ⟨2560 + k, by omega⟩) (fun k => w ⟨2560 + k, by omega⟩) = acc r w := by
  obtain ⟨z, hz⟩ := zpF_int r
  choose n hn using codeF_int r
  have sub : ∀ k, a k = (((n k - z : ℤ) : ℝ) : EReal) := by
    intro k; rw [ha, (hn k).1, hz.1]; push_cast; rfl
  have one : ∀ g : Fin 512 → Fin 3072, part (fun k => a (g k)) (fun k => w (g k)) =
      ∑ k, BitVec.ofInt 32 (n (g k) - z) * (w (g k)).signExtend 32 := by
    intro g
    unfold part
    rw [← chunk (fun k => n (g k) - z) (fun k => w (g k)) fun k => ⟨by have := hn (g k); omega, by have := hn (g k); omega⟩]
    simp only [sub]
  rw [acc_eq r w n z hn hz, sum_parts]
  simp only [← one]

end Cert.Quant

end
-- ==== Proof.KernelRows.lean ====
/- The kernel's row computations read at an index, over the extended reals: the scale, the zero point, the codes and the
   shifted codes of 64 rows are the quantiser's. -/
module

public import proofs.«01_k».proof.Proof.Quant
public import proofs.«01_k».proof.Proof.Pieces

@[expose] public section

set_option maxRecDepth 16384

noncomputable section

namespace Cert.KernelIdeal.Hand

open Cert.KernelIdeal.Gen
open Idealize.ShloMosaic

/-- A row of 64. -/
abbrev row64 (X : Vec Ideal S64x3072 .f32) (i : Fin 64) : Quant.Row := fun k => X (ix2 i k)

/-- The least element, or zero. -/
theorem pay3_apply (X : Vec Ideal S64x3072 .f32) (i : Fin 64) : k0_pay3 X (ix2 i 0) = Quant.lo (row64 X i) := by
  pointwise [k0_pay3, k0_pay2, Quant.lo]
  rw [Quant.bits_top]

/-- The scale. -/
theorem pay4_apply (X : Vec Ideal S64x3072 .f32) (i : Fin 64) : k0_pay4 X (ix2 i 0) = Quant.scale (row64 X i) := by
  pointwise [k0_pay4, k0_pay2]
  rw [Quant.bits_bot, Quant.bits_255, pay3_apply]
  rfl

/-- The zero point. -/
theorem pay5_apply (X : Vec Ideal S64x3072 .f32) (i : Fin 64) : k0_pay5 X (ix2 i 0) = Quant.zpF (row64 X i) := by
  pointwise [k0_pay5]
  rw [Quant.bits_127, Quant.bits_m128, pay3_apply, pay4_apply]
  rfl

/-- The zero point's word. -/
theorem zpRows_apply (X : Vec Ideal S64x3072 .f32) (i : Fin 64) : zpRows X (ix2 i 0) = Quant.zp (row64 X i) := by
  pointwise [zpRows, k0_pay9]
  rw [pay5_apply]
  rfl

/-- The codes, as numbers. -/
theorem pay6_apply (X : Vec Ideal S64x3072 .f32) (i : Fin 64) (k : Fin 3072) : k0_pay6 X (ix2 i k) = Quant.codeF (row64 X i) k := by
  pointwise [k0_pay6, k0_pay2]
  rw [Quant.bits_127, Quant.bits_m128, pay4_apply, pay5_apply]
  rfl

/-- The codes' words. -/
theorem pay7_apply (X : Vec Ideal S64x3072 .f32) (i : Fin 64) (k : Fin 3072) : k0_pay7 X (ix2 i k) = Quant.code (row64 X i) k := by
  pointwise [k0_pay7]
  rw [pay6_apply]
  rfl

/-- The codes less the zero point. -/
theorem pay8_apply (X : Vec Ideal S64x3072 .f32) (i : Fin 64) (k : Fin 3072) :
    k0_pay8 X (ix2 i k) = Quant.codeF (row64 X i) k - Quant.zpF (row64 X i) := by
  pointwise [k0_pay8]
  rw [pay6_apply, pay5_apply]

end Cert.KernelIdeal.Hand

end
-- ==== Proof.KernelBlock.lean ====
/- The codes, scales, zero points and shifted codes of the whole input read at an index: each is the quantiser's value of its
   row. -/
module

public import proofs.«01_k».proof.Proof.KernelRows
public import Idealize.ShloMosaic.Lib.Pipeline.ValueKit

@[expose] public section

set_option maxRecDepth 16384

noncomputable section

namespace Cert.KernelIdeal.Hand

open Cert.KernelIdeal.Gen
open Idealize.ShloMosaic

/-- A row of the input. -/
abbrev row256 (X : Vec Ideal S256x3072 .f32) (r : Fin 256) : Quant.Row := fun k => X (ix2 r k)

/-- Row `i` of the rows from 0 on is row `0 + i`. -/
theorem rows0_row (X : Vec Ideal S256x3072 .f32) (i : Fin 64) (r : Fin 256) (h : (r : Nat) = 0 + i) :
    row64 (rows0 X) i = row256 X r :=
  funext fun k => View.ld_unit_apply_of X _ _ _ (ix2 i k) (ix2 r k) fun a => match a with
    | ⟨0, _⟩ => h
    | ⟨1, _⟩ => (Nat.zero_add _).symm

/-- Row `i` of the rows from 64 on is row `64 + i`. -/
theorem rows64_row (X : Vec Ideal S256x3072 .f32) (i : Fin 64) (r : Fin 256) (h : (r : Nat) = 64 + i) :
    row64 (rows64 X) i = row256 X r :=
  funext fun k => View.ld_unit_apply_of X _ _ _ (ix2 i k) (ix2 r k) fun a => match a with
    | ⟨0, _⟩ => h
    | ⟨1, _⟩ => (Nat.zero_add _).symm

/-- Row `i` of the rows from 128 on is row `128 + i`. -/
theorem rows128_row (X : Vec Ideal S256x3072 .f32) (i : Fin 64) (r : Fin 256) (h : (r : Nat) = 128 + i) :
    row64 (rows128 X) i = row256 X r :=
  funext fun k => View.ld_unit_apply_of X _ _ _ (ix2 i k) (ix2 r k) fun a => match a with
    | ⟨0, _⟩ => h
    | ⟨1, _⟩ => (Nat.zero_add _).symm

/-- Row `i` of the rows from 192 on is row `192 + i`. -/
theorem rows192_row (X : Vec Ideal S256x3072 .f32) (i : Fin 64) (r : Fin 256) (h : (r : Nat) = 192 + i) :
    row64 (rows192 X) i = row256 X r :=
  funext fun k => View.ld_unit_apply_of X _ _ _ (ix2 i k) (ix2 r k) fun a => match a with
    | ⟨0, _⟩ => h
    | ⟨1, _⟩ => (Nat.zero_add _).symm

/-- Where a piece of 64 rows lands in the whole block. -/
theorem emb_wide (o : Nat) (inb) (i : Fin 64) (k : Fin 3072) (h : o + i < 256) :
    (Rect.unit (s := S256x3072) ![o, 0] S64x3072.size inb).emb (ix2 i k) = ix2 ⟨o + i, h⟩ k :=
  funext fun a => Fin.ext (by rw [ValueKit.rect_emb_unit_val]; match a with
    | ⟨0, _⟩ => rfl
    | ⟨1, _⟩ => exact Nat.zero_add _)

/-- Where a piece of 64 rows lands in the whole column. -/
theorem emb_col (o : Nat) (inb) (i : Fin 64) (h : o + i < 256) :
    (Rect.unit (s := S256x1) ![o, 0] S64x1.size inb).emb (ix2 i (0 : Fin 1)) = ix2 ⟨o + i, h⟩ (0 : Fin 1) :=
  funext fun a => Fin.ext (by rw [ValueKit.rect_emb_unit_val]; match a with
    | ⟨0, _⟩ => rfl
    | ⟨1, _⟩ => rfl)

/-- Four stores of 64 rows each: if a store's rows are a function of the input's rows, so are the rows they leave. -/
theorem wide_apply {e : EltTy} (X : Vec Ideal S256x3072 .f32) (pay : Vec Ideal S64x3072 .f32 → Vec Ideal S64x3072 e)
    (f : Quant.Row → Fin 3072 → Elt Ideal e)
    (hf : ∀ (Y : Vec Ideal S64x3072 .f32) (i : Fin 64) (k : Fin 3072), pay Y (ix2 i k) = f (row64 Y i) k)
    (L : List (View.Piece (Elt Ideal) S256x3072 e))
    (hL : L =
       [⟨Rect.unit (s := S256x3072) ![192, 0] S64x3072.size inb_S256x3072_S64x3072_192_0, pay (rows192 X)⟩,
        ⟨Rect.unit (s := S256x3072) ![128, 0] S64x3072.size inb_S256x3072_S64x3072_128_0, pay (rows128 X)⟩,
        ⟨Rect.unit (s := S256x3072) ![64, 0] S64x3072.size inb_S256x3072_S64x3072_64_0, pay (rows64 X)⟩,
        ⟨Rect.unit (s := S256x3072) ![0, 0] S64x3072.size inb_S256x3072_S64x3072_0_0, pay (rows0 X)⟩])
    (cover : ∀ y, ∃ p ∈ L, y ∈ p.1.set) (r : Fin 256) (k : Fin 3072) :
    View.canon L (ix2 r k) = f (row256 X r) k := by
  refine View.canon_apply_of_pieces (fun y => f (row256 X (y 0)) (y 1)) L ?_ (ix2 r k) (cover _)
  intro p hp
  rw [hL] at hp
  simp only [List.mem_cons, List.not_mem_nil, or_false] at hp
  rcases hp with rfl | rfl | rfl | rfl <;> intro x
  · obtain ⟨i, k, rfl⟩ : ∃ (i : Fin 64) (k : Fin 3072), x = ix2 i k := ⟨x 0, x 1, eq_ix2 x⟩
    refine (hf (rows192 X) i k).trans ?_
    rw [emb_wide 192 _ i k (by omega), rows192_row X i ⟨192 + i, by omega⟩ rfl]
    rfl
  · obtain ⟨i, k, rfl⟩ : ∃ (i : Fin 64) (k : Fin 3072), x = ix2 i k := ⟨x 0, x 1, eq_ix2 x⟩
    refine (hf (rows128 X) i k).trans ?_
    rw [emb_wide 128 _ i k (by omega), rows128_row X i ⟨128 + i, by omega⟩ rfl]
    rfl
  · obtain ⟨i, k, rfl⟩ : ∃ (i : Fin 64) (k : Fin 3072), x = ix2 i k := ⟨x 0, x 1, eq_ix2 x⟩
    refine (hf (rows64 X) i k).trans ?_
    rw [emb_wide 64 _ i k (by omega), rows64_row X i ⟨64 + i, by omega⟩ rfl]
    rfl
  · obtain ⟨i, k, rfl⟩ : ∃ (i : Fin 64) (k : Fin 3072), x = ix2 i k := ⟨x 0, x 1, eq_ix2 x⟩
    refine (hf (rows0 X) i k).trans ?_
    rw [emb_wide 0 _ i k (by omega), rows0_row X i ⟨0 + i, by omega⟩ rfl]
    rfl

/-- Four stores of 64 rows each: if a store's rows are a function of the input's rows, so are the rows they leave. -/
theorem col_apply {e : EltTy} (X : Vec Ideal S256x3072 .f32) (pay : Vec Ideal S64x3072 .f32 → Vec Ideal S64x1 e)
    (f : Quant.Row → Elt Ideal e)
    (hf : ∀ (Y : Vec Ideal S64x3072 .f32) (i : Fin 64), pay Y (ix2 i 0) = f (row64 Y i))
    (L : List (View.Piece (Elt Ideal) S256x1 e))
    (hL : L =
       [⟨Rect.unit (s := S256x1) ![192, 0] S64x1.size inb_S256x1_S64x1_192_0, pay (rows192 X)⟩,
        ⟨Rect.unit (s := S256x1) ![128, 0] S64x1.size inb_S256x1_S64x1_128_0, pay (rows128 X)⟩,
        ⟨Rect.unit (s := S256x1) ![64, 0] S64x1.size inb_S256x1_S64x1_64_0, pay (rows64 X)⟩,
        ⟨Rect.unit (s := S256x1) ![0, 0] S64x1.size inb_S256x1_S64x1_0_0, pay (rows0 X)⟩])
    (cover : ∀ y, ∃ p ∈ L, y ∈ p.1.set) (r : Fin 256) :
    View.canon L (ix2 r 0) = f (row256 X r) := by
  refine View.canon_apply_of_pieces (fun y => f (row256 X (y 0))) L ?_ (ix2 r 0) (cover _)
  intro p hp
  rw [hL] at hp
  simp only [List.mem_cons, List.not_mem_nil, or_false] at hp
  rcases hp with rfl | rfl | rfl | rfl <;> intro x
  · obtain ⟨i, rfl⟩ : ∃ i : Fin 64, x = ix2 i (0 : Fin 1) :=
      ⟨x 0, (eq_ix2 x).trans (congrArg (ix2 (x 0)) (Subsingleton.elim (α := Fin 1) (x 1) 0))⟩
    refine (hf (rows192 X) i).trans ?_
    rw [emb_col 192 _ i (by omega), rows192_row X i ⟨192 + i, by omega⟩ rfl]
    rfl
  · obtain ⟨i, rfl⟩ : ∃ i : Fin 64, x = ix2 i (0 : Fin 1) :=
      ⟨x 0, (eq_ix2 x).trans (congrArg (ix2 (x 0)) (Subsingleton.elim (α := Fin 1) (x 1) 0))⟩
    refine (hf (rows128 X) i).trans ?_
    rw [emb_col 128 _ i (by omega), rows128_row X i ⟨128 + i, by omega⟩ rfl]
    rfl
  · obtain ⟨i, rfl⟩ : ∃ i : Fin 64, x = ix2 i (0 : Fin 1) :=
      ⟨x 0, (eq_ix2 x).trans (congrArg (ix2 (x 0)) (Subsingleton.elim (α := Fin 1) (x 1) 0))⟩
    refine (hf (rows64 X) i).trans ?_
    rw [emb_col 64 _ i (by omega), rows64_row X i ⟨64 + i, by omega⟩ rfl]
    rfl
  · obtain ⟨i, rfl⟩ : ∃ i : Fin 64, x = ix2 i (0 : Fin 1) :=
      ⟨x 0, (eq_ix2 x).trans (congrArg (ix2 (x 0)) (Subsingleton.elim (α := Fin 1) (x 1) 0))⟩
    refine (hf (rows0 X) i).trans ?_
    rw [emb_col 0 _ i (by omega), rows0_row X i ⟨0 + i, by omega⟩ rfl]
    rfl

/-- The codes. -/
theorem codesV_apply (X : Vec Ideal S256x3072 .f32) (r : Fin 256) (k : Fin 3072) :
    codesV X (ix2 r k) = Quant.code (row256 X r) k := by
  unfold codesV
  exact wide_apply X k0_pay7 Quant.code pay7_apply (codesL X) rfl (codesL_cover X) r k

/-- The shifted codes. -/
theorem shiftV_apply (X : Vec Ideal S256x3072 .f32) (r : Fin 256) (k : Fin 3072) :
    shiftV X (ix2 r k) = Quant.codeF (row256 X r) k - Quant.zpF (row256 X r) := by
  unfold shiftV
  exact wide_apply X k0_pay8 (fun r k => Quant.codeF r k - Quant.zpF r) pay8_apply (shiftL X) rfl (shiftL_cover X) r k

/-- The scales. -/
theorem scaleV_apply (X : Vec Ideal S256x3072 .f32) (r : Fin 256) :
    scaleV X (ix2 r 0) = Quant.scale (row256 X r) := by
  unfold scaleV
  exact col_apply X k0_pay4 Quant.scale pay4_apply (scaleL X) rfl (scaleL_cover X) r

/-- The zero points. -/
theorem zpV_apply (X : Vec Ideal S256x3072 .f32) (r : Fin 256) :
    zpV X (ix2 r 0) = Quant.zp (row256 X r) := by
  unfold zpV
  exact col_apply X zpRows Quant.zp zpRows_apply (zpL X) rfl (zpL_cover X) r

end Cert.KernelIdeal.Hand

end
-- ==== Proof.KernelTile.lean ====
/- The tile of the product read at an index, over the extended reals. -/
module

public import proofs.«01_k».proof.Proof.Words
public import proofs.«01_k».proof.Proof.KernelBlock

@[expose] public section

set_option maxRecDepth 16384

noncomputable section

namespace Cert.KernelIdeal.Hand

open Cert.KernelIdeal.Gen
open Idealize.ShloMosaic

/-- One part of the product: 512 columns of the shifted codes against 512 rows of the weights. -/
def partV (a : FVec Ideal S256x512 .bf16) (w : Vec Ideal S512x512 .i8) : IVec S256x512 32 :=
  fptosi 32 (roundeven (matmul (φ₁ := .bf16) (φ₂ := .bf16) dot_S256x512_S512x512_S256x512_1_0_0_1_n_n none a (sitofp .bf16 w : FVec Ideal S512x512 .bf16)
    (constant (F := Ideal) S256x512 .f32 0x00000000#32)))

/-- The element of one part. -/
theorem partV_apply (a : Vec Ideal S256x512 .bf16) (w : Vec Ideal S512x512 .i8) (r : Fin 256) (n : Fin 512) :
    partV a w (ix2 r n) = Quant.part (fun k => a (ix2 r k)) (fun k => w (ix2 k n)) := by
  pointwise [partV]
  unfold Quant.part Quant.rnd
  rfl

/-- The first four parts. -/
theorem pay36_eq (a₀ a₁ a₂ a₃ : Vec Ideal S256x512 .bf16) (w₀ w₁ w₂ w₃ : Vec Ideal S512x512 .i8) :
    k0_pay36 (F := Ideal) a₀ w₀ a₁ w₁ a₂ w₂ a₃ w₃ = addi (addi (addi (partV a₀ w₀) (partV a₁ w₁)) (partV a₂ w₂)) (partV a₃ w₃) := rfl

/-- The scaled accumulator with the bias. -/
def finishV (v : IVec S256x512 32) (s : FVec Ideal S256x1 .f32) (ws b : FVec Ideal S1x512 .f32) : FVec Ideal S256x512 .f32 :=
  addf (mulf (sitofp .f32 v) (mulf (broadcastTo S256x512 (shapeCast S256x1 s shapeCasts_S256x1_S256x1) broadcasts_S256x1_S256x512)
    (broadcastTo S256x512 (shapeCast S1x512 ws shapeCasts_S1x512_S1x512) broadcasts_S1x512_S256x512)))
    (broadcastTo S256x512 (shapeCast S1x512 b shapeCasts_S1x512_S1x512) broadcasts_S1x512_S256x512)

/-- The last two parts and the scaling. -/
theorem pay1_eq (v : IVec S256x512 32) (a₄ a₅ : Vec Ideal S256x512 .bf16) (w₄ w₅ : Vec Ideal S512x512 .i8)
    (s : Vec Ideal S256x1 .f32) (ws b : Vec Ideal S1x512 .f32) :
    k0_pay1 (F := Ideal) v a₄ w₄ a₅ w₅ s ws b = finishV (addi (addi v (partV a₄ w₄)) (partV a₅ w₅)) s ws b := rfl

/-- The element of the scaled accumulator. -/
theorem finishV_apply (v : IVec S256x512 32) (s : Vec Ideal S256x1 .f32) (ws b : Vec Ideal S1x512 .f32) (r : Fin 256) (n : Fin 512) :
    finishV v s ws b (ix2 r n) = (((v (ix2 r n)).toInt : ℝ) : EReal) * (s (ix2 r 0) * ws (ix2 0 n)) + b (ix2 0 n) := by
  pointwise [finishV]
  rfl

/-- A part of the shifted codes: 512 columns from `o` on. -/
theorem ld_cols (a : Vec Ideal S256x3072 .bf16) (o : Nat) (inb) (r : Fin 256) (k : Fin 512) (h : o + k < 3072) :
    View.ld a (Rect.unit (s := S256x3072) ![0, o] S256x512.size inb) (ix2 r k) = a (ix2 r ⟨o + k, h⟩) :=
  View.ld_unit_apply_of a _ _ _ (ix2 r k) (ix2 r ⟨o + k, h⟩) fun i => match i with
    | ⟨0, _⟩ => (Nat.zero_add _).symm
    | ⟨1, _⟩ => rfl

/-- A part of the weights: 512 rows from `o` on. -/
theorem ld_rows (w : Vec Ideal S3072x512 .i8) (o : Nat) (inb) (k : Fin 512) (n : Fin 512) (h : o + k < 3072) :
    View.ld w (Rect.unit (s := S3072x512) ![o, 0] S512x512.size inb) (ix2 k n) = w (ix2 ⟨o + k, h⟩ n) :=
  View.ld_unit_apply_of w _ _ _ (ix2 k n) (ix2 ⟨o + k, h⟩ n) fun i => match i with
    | ⟨0, _⟩ => rfl
    | ⟨1, _⟩ => (Nat.zero_add _).symm

/-- One part of the product, read from the whole block and the whole tile of weights. -/
theorem part_ld (a : Vec Ideal S256x3072 .bf16) (w : Vec Ideal S3072x512 .i8) (o : Nat) (inb inb') (ho : o + 512 ≤ 3072)
    (r : Fin 256) (n : Fin 512) :
    partV (View.ld a (Rect.unit (s := S256x3072) ![0, o] S256x512.size inb))
        (View.ld w (Rect.unit (s := S3072x512) ![o, 0] S512x512.size inb')) (ix2 r n) =
      Quant.part (fun k => a (ix2 r ⟨o + k, by omega⟩)) (fun k => w (ix2 ⟨o + k, by omega⟩ n)) := by
  rw [partV_apply]
  congr 1
  · funext k; exact ld_cols a o inb r k _
  · funext k; exact ld_rows w o inb' k n _

/-- The tile of the product. -/
theorem yV_apply (a : Vec Ideal S256x3072 .bf16) (s : Vec Ideal S256x1 .f32) (w : Vec Ideal S3072x512 .i8)
    (ws b : Vec Ideal S1x512 .f32) (row : Quant.Row) (r : Fin 256) (n : Fin 512)
    (ha : ∀ k, a (ix2 r k) = Quant.codeF row k - Quant.zpF row) (hs : s (ix2 r 0) = Quant.scale row) :
    yV a s w ws b (ix2 r n) = Quant.out row (fun k => w (ix2 k n)) (ws (ix2 0 n)) (b (ix2 0 n)) := by
  unfold yV
  rw [pay1_eq, pay36_eq, finishV_apply, hs]
  unfold Quant.out
  rw [← Quant.acc_parts row (fun k => w (ix2 k n)) (fun k => a (ix2 r k)) ha]
  have e : ∀ (u v : IVec S256x512 32) (i : S256x512.Idx), addi u v i = u i + v i := fun _ _ _ => rfl
  rw [e, e, e, e, e, part_ld a w 0 _ _ (by omega), part_ld a w 512 _ _ (by omega), part_ld a w 1024 _ _ (by omega),
    part_ld a w 1536 _ _ (by omega), part_ld a w 2048 _ _ (by omega), part_ld a w 2560 _ _ (by omega)]
  simp only [Nat.zero_add]

end Cert.KernelIdeal.Hand

end
-- ==== Proof.Inputs.lean ====
/- The input blocks read at an index of the arguments. -/
module

public import proofs.«01_k».proof.Proof.KernelTile
public import proofs.«01_k».proof.Proof.Launched

@[expose] public section

set_option maxRecDepth 16384

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ)

/-- Row `r` of the input, the two batches one after the other. -/
abbrev rowOf (c : Dev nD) (r : Fin 256) : Quant.Row := fun k =>
  (m ((c : Thread nD τ).loc main_arg0) : Vec Ideal S2x128x3072 .f32) (ix3 ⟨r.val / 128, by omega⟩ ⟨r.val % 128, by omega⟩ k)

/-- The window of the input stays at the whole array. -/
theorem idx0 : ∀ t : Fin grid0.N, win0_0.index t = ![0, 0] := by decide +kernel
/-- The window of the weights at a point: the point's columns. -/
theorem idx1 : ∀ t : Fin grid0.N, win0_1.index t = ![0, t.val] := by decide +kernel
/-- The window of the weights' scales at a point: the point's columns. -/
theorem idx2 : ∀ t : Fin grid0.N, win0_2.index t = ![0, t.val] := by decide +kernel
/-- The window of the bias at a point: the point's columns. -/
theorem idx3 : ∀ t : Fin grid0.N, win0_3.index t = ![0, t.val] := by decide +kernel
/-- The window of the product at a point: the point's columns. -/
theorem idx4 : ∀ t : Fin grid0.N, win0_4.index t = ![0, t.val] := by decide +kernel

/-- The input as the region finds it. -/
theorem V_v0 (c : Dev nD) : V m c main_v0 =
    (shapeCast S256x3072 (m ((c : Thread nD τ).loc main_arg0) : Vec Ideal S2x128x3072 .f32) shapeCasts_S2x128x3072_S256x3072 : Vec Ideal S256x3072 .f32) := by
  entry_read
  rfl

/-- The weights' scales as the region finds them. -/
theorem V_v1 (c : Dev nD) : V m c main_v1 =
    (shapeCast S1x8192 (m ((c : Thread nD τ).loc main_arg2) : Vec Ideal S8192 .f32) shapeCasts_S8192_S1x8192 : Vec Ideal S1x8192 .f32) := by
  entry_read
  rfl

/-- The bias as the region finds it. -/
theorem V_v2 (c : Dev nD) : V m c main_v2 =
    (shapeCast S1x8192 (m ((c : Thread nD τ).loc main_arg3) : Vec Ideal S8192 .f32) shapeCasts_S8192_S1x8192 : Vec Ideal S1x8192 .f32) := by
  entry_read
  rfl

/-- The batches one after the other: where a row comes from. -/
theorem cast_rows (X : Vec Ideal S2x128x3072 .f32) (r : Fin 256) (k : Fin 3072) :
    (shapeCast S256x3072 X shapeCasts_S2x128x3072_S256x3072 : Vec Ideal S256x3072 .f32) (ix2 r k) =
      X (ix3 ⟨r.val / 128, by omega⟩ ⟨r.val % 128, by omega⟩ k) := by
  pointwise []

/-- One row of a vector. -/
theorem cast_vec (X : Vec Ideal S8192 .f32) (n : Fin 8192) :
    (shapeCast S1x8192 X shapeCasts_S8192_S1x8192 : Vec Ideal S1x8192 .f32) (ix2 0 n) = X (ix1 n) := by
  pointwise []

/-- The input's block is its rows. -/
theorem xBlk_row (c : Dev nD) (r : Fin 256) : row256 (xBlk m c) r = rowOf m c r := by
  funext k
  show iblk m c 0 first (ix2 r k) = _
  refine Eq.trans (b := (V m c main_v0 : Vec Ideal S256x3072 .f32) (ix2 r k)) ?_ ?_
  · blk_ext [iblk, idx0 first]
  · rw [V_v0]; exact cast_rows _ r k

/-- A tile of the weights. -/
theorem iblk1_apply (c : Dev nD) (t : Fin grid0.N) (k : Fin 3072) (n : Fin 512) (h : 512 * t.val + n.val < 8192) :
    iblk m c 1 t (ix2 k n) = (m ((c : Thread nD τ).loc main_arg1) : Vec Ideal S3072x8192 .i8) (ix2 k ⟨512 * t.val + n.val, h⟩) := by
  blk_ext [iblk, V, idx1 t]

/-- A tile of the weights' scales. -/
theorem iblk2_apply (c : Dev nD) (t : Fin grid0.N) (n : Fin 512) (h : 512 * t.val + n.val < 8192) :
    iblk m c 2 t (ix2 0 n) = (m ((c : Thread nD τ).loc main_arg2) : Vec Ideal S8192 .f32) (ix1 ⟨512 * t.val + n.val, h⟩) := by
  refine Eq.trans (b := (V m c main_v1 : Vec Ideal S1x8192 .f32) (ix2 0 ⟨512 * t.val + n.val, h⟩)) ?_ ?_
  · blk_ext [iblk, idx2 t]
  · rw [V_v1]; exact cast_vec _ _

/-- A tile of the bias. -/
theorem iblk3_apply (c : Dev nD) (t : Fin grid0.N) (n : Fin 512) (h : 512 * t.val + n.val < 8192) :
    iblk m c 3 t (ix2 0 n) = (m ((c : Thread nD τ).loc main_arg3) : Vec Ideal S8192 .f32) (ix1 ⟨512 * t.val + n.val, h⟩) := by
  refine Eq.trans (b := (V m c main_v2 : Vec Ideal S1x8192 .f32) (ix2 0 ⟨512 * t.val + n.val, h⟩)) ?_ ?_
  · blk_ext [iblk, idx3 t]
  · rw [V_v2]; exact cast_vec _ _

end Cert.KernelIdeal.Hand

end
-- ==== Proof.Arrays.lean ====
/- The kernel's result arrays after its run, over the extended reals, as functions of the arguments. -/
module

public import proofs.«01_k».proof.Proof.Inputs
public import Idealize.ShloMosaic.Lib.Pipeline.ValueKit
public import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Column `n` of the weights. -/
abbrev colOf (c : Dev nD) (n : Fin 8192) : Quant.Col := fun k =>
  (m ((c : Thread nD τ).loc main_arg1) : Vec Ideal S3072x8192 .i8) (ix2 k n)
/-- The scale of column `n` of the weights. -/
abbrev wsOf (c : Dev nD) (n : Fin 8192) : EReal := (m ((c : Thread nD τ).loc main_arg2) : Vec Ideal S8192 .f32) (ix1 n)
/-- The bias of column `n`. -/
abbrev biasOf (c : Dev nD) (n : Fin 8192) : EReal := (m ((c : Thread nD τ).loc main_arg3) : Vec Ideal S8192 .f32) (ix1 n)

/-- The product array: row `r` of the input against column `n` of the weights. -/
def yArr (c : Dev nD) : Vec Ideal S256x8192 .f32 := fun i => Quant.out (rowOf m c (i 0)) (colOf m c (i 1)) (wsOf m c (i 1)) (biasOf m c (i 1))
/-- The array of codes. -/
def codesArr (c : Dev nD) : Vec Ideal S256x3072 .i8 := fun i => Quant.code (rowOf m c (i 0)) (i 1)
/-- The array of scales. -/
def scaleArr (c : Dev nD) : Vec Ideal S256x1 .f32 := fun i => Quant.scale (rowOf m c (i 0))
/-- The array of zero points. -/
def zpArr (c : Dev nD) : Vec Ideal S256x1 .i32 := fun i => Quant.zp (rowOf m c (i 0))

/-- The tile of the product at a point, at an index. -/
theorem yBlk_apply (c : Dev nD) (t : Fin grid0.N) (r : Fin 256) (n : Fin 512) (h : 512 * t.val + n.val < 8192) :
    yBlk m c t (ix2 r n) = yArr m c (ix2 r ⟨512 * t.val + n.val, h⟩) := by
  refine (yV_apply _ _ _ _ _ (rowOf m c r) r n (fun k => ?_) ?_).trans ?_
  · rw [shiftV_apply, xBlk_row]
  · rw [scaleV_apply, xBlk_row]
  · rw [iblk2_apply m c t n h, iblk3_apply m c t n h]
    rw [show (fun k => iblk m c 1 t (ix2 k n)) = colOf m c ⟨512 * t.val + n.val, h⟩ from funext fun k => iblk1_apply m c t k n h]
    rfl

/-- The product array after the run. -/
theorem final4 (c : Dev nD) : (dats m 0 c).arrAt 4 (cfgs 0).N = yArr m c := by
  refine (dats m 0 c).arrAt_eq_of_covers 4 _ (by decide +kernel) fun t hf y => ?_
  have ht : t.val < 16 := t.isLt.trans_eq N_0
  blk_simp
  rw [after0_4]
  obtain ⟨r, n, rfl⟩ : ∃ (r : Fin 256) (n : Fin 512), y = ix2 r n := ⟨y 0, y 1, eq_ix2 y⟩
  refine (yBlk_apply m c t r n (by omega)).trans ?_
  blk_ext [idx4 t]

/-- The codes after the run. -/
theorem final5 (c : Dev nD) : (dats m 0 c).arrAt 5 (cfgs 0).N = codesArr m c := by
  refine (dats m 0 c).arrAt_eq_of_after_last 5 t0_15 (by decide +kernel) _ fun j => ?_
  blk_simp
  rw [after0_5]
  obtain ⟨r, k, rfl⟩ : ∃ (r : Fin 256) (k : Fin 3072), j = ix2 r k := ⟨j 0, j 1, eq_ix2 j⟩
  rw [codesV_apply, xBlk_row]
  rfl

/-- The scales after the run. -/
theorem final6 (c : Dev nD) : (dats m 0 c).arrAt 6 (cfgs 0).N = scaleArr m c := by
  refine (dats m 0 c).arrAt_eq_of_after_last 6 t0_15 (by decide +kernel) _ fun j => ?_
  blk_simp
  rw [after0_6]
  obtain ⟨r, rfl⟩ : ∃ r : Fin 256, j = ix2 r (0 : Fin 1) :=
    ⟨j 0, (eq_ix2 j).trans (congrArg (ix2 (j 0)) (Subsingleton.elim (α := Fin 1) (j 1) 0))⟩
  rw [scaleV_apply, xBlk_row]
  rfl

/-- The zero points after the run. -/
theorem final7 (c : Dev nD) : (dats m 0 c).arrAt 7 (cfgs 0).N = zpArr m c := by
  refine (dats m 0 c).arrAt_eq_of_after_last 7 t0_15 (by decide +kernel) _ fun j => ?_
  blk_simp
  rw [after0_7]
  obtain ⟨r, rfl⟩ : ∃ r : Fin 256, j = ix2 r (0 : Fin 1) :=
    ⟨j 0, (eq_ix2 j).trans (congrArg (ix2 (j 0)) (Subsingleton.elim (α := Fin 1) (j 1) 0))⟩
  rw [zpV_apply, xBlk_row]
  rfl

end Cert.KernelIdeal.Hand

end
-- ==== Proof.Results.lean ====
/- The kernel's results after its run, over the extended reals: the arrays of the run under @main's last reshapes. -/
module

public import proofs.«01_k».proof.Proof.Arrays

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first result: the product array, cut into batches. -/
def res4 (c : Dev nD) : Vec Ideal S2x128x8192 .f32 := shapeCast S2x128x8192 (yArr m c) shapeCasts_S256x8192_S2x128x8192
/-- The second result: the codes, cut into batches. -/
def res5 (c : Dev nD) : Vec Ideal S2x128x3072 .i8 := shapeCast S2x128x3072 (codesArr m c) shapeCasts_S256x3072_S2x128x3072
/-- The third result: the scales, cut into batches. -/
def res6 (c : Dev nD) : Vec Ideal S2x128 .f32 := shapeCast S2x128 (scaleArr m c) shapeCasts_S256x1_S2x128
/-- The fourth result: the zero points, cut into batches. -/
def res7 (c : Dev nD) : Vec Ideal S2x128 .i32 := shapeCast S2x128 (zpArr m c) shapeCasts_S256x1_S2x128

/-- The windows' arrays are different buffers. -/
theorem arrRef_inj : Function.Injective (Pipeline.arrRef (cfgs 0).spec) := by decide

/-- An array as the region leaves it. -/
theorem left_arr (c : Dev nD) (w : Fin 8) :
    Pipeline.withArrays (cfgs 0).spec c (V0 m c) (fun w => (dats m 0 c).arrAt w (cfgs 0).N)
      (Proc.devRef .tc (Pipeline.arrRef (cfgs 0).spec w)) = (dats m 0 c).arrAt w (cfgs 0).N :=
  Pipeline.withArrays_arr _ arrRef_inj c _ _ w

/-- The first result buffer after the lines that follow the region. -/
theorem tail4 (c : Dev nD) : Pipeline.afterTail₀ cfgs (dats m) 0 (V0 m) [hostOps1] c main_v4 = res4 m c := by
  unfold Pipeline.afterTail₀ res4
  rw [← final4, ← left_arr m c 4]
  simp only [List.flatten_cons, List.flatten_nil, List.append_nil, hostOps1]
  after_reads_simp
  rfl

/-- The second result buffer after the lines that follow the region. -/
theorem tail5 (c : Dev nD) : Pipeline.afterTail₀ cfgs (dats m) 0 (V0 m) [hostOps1] c main_v5 = res5 m c := by
  unfold Pipeline.afterTail₀ res5
  rw [← final5, ← left_arr m c 5]
  simp only [List.flatten_cons, List.flatten_nil, List.append_nil, hostOps1]
  after_reads_simp
  rfl

/-- The third result buffer after the lines that follow the region. -/
theorem tail6 (c : Dev nD) : Pipeline.afterTail₀ cfgs (dats m) 0 (V0 m) [hostOps1] c main_v6 = res6 m c := by
  unfold Pipeline.afterTail₀ res6
  rw [← final6, ← left_arr m c 6]
  simp only [List.flatten_cons, List.flatten_nil, List.append_nil, hostOps1]
  after_reads_simp
  rfl

/-- The fourth result buffer after the lines that follow the region. -/
theorem tail7 (c : Dev nD) : Pipeline.afterTail₀ cfgs (dats m) 0 (V0 m) [hostOps1] c main_v7 = res7 m c := by
  unfold Pipeline.afterTail₀ res7
  rw [← final7, ← left_arr m c 7]
  simp only [List.flatten_cons, List.flatten_nil, List.append_nil, hostOps1]
  after_reads_simp
  rfl

/-- The run of the kernel: it terminates, its results are the four arrays above and its arguments end unchanged. -/
theorem run_results : θ_run defs (onTc (τ := τ) (main (F := Ideal))) ⟨m, fun _ => 0, ρ⟩ (fun r => ∀ c : Dev nD,
      r.2.mem ((c.tc : Thread nD τ).loc main_v4) = res4 m c
      ∧ r.2.mem ((c.tc : Thread nD τ).loc main_v5) = res5 m c
      ∧ r.2.mem ((c.tc : Thread nD τ).loc main_v6) = res6 m c
      ∧ r.2.mem ((c.tc : Thread nD τ).loc main_v7) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c),
      ((h.1 c).2 main_v7 (Pipeline.mem_restRefs_of main_v7 (by decide) (by decide))).trans (tail7 m c), h.2 c⟩)
    (θ_run_and (run_main m ρ) (unchanged m ρ))

/-- The row of the input that row `128 b + s` of the arrays is computed from. -/
theorem rowOf_batch (c : Dev nD) (b : Fin 2) (s : Fin 128) (h : b.val * 128 + s.val < 256) :
    rowOf m c ⟨b.val * 128 + s.val, h⟩ =
      fun k => (m ((c : Thread nD τ).loc main_arg0) : Vec Ideal S2x128x3072 .f32) (ix3 b s k) := by
  funext k
  unfold rowOf
  rw [show (⟨(b.val * 128 + s.val) / 128, by omega⟩ : Fin 2) = b from Fin.ext (show (b.val * 128 + s.val) / 128 = b.val by omega),
    show (⟨(b.val * 128 + s.val) % 128, by omega⟩ : Fin 128) = s from Fin.ext (show (b.val * 128 + s.val) % 128 = s.val by omega)]

/-- A wide array cut into batches, at an index. -/
theorem cut4 (A : Vec Ideal S256x8192 .f32) (b : Fin 2) (s : Fin 128) (n : Fin 8192) :
    (shapeCast S2x128x8192 A shapeCasts_S256x8192_S2x128x8192 : Vec Ideal S2x128x8192 .f32) (ix3 b s n) =
      A (ix2 ⟨b.val * 128 + s.val, by omega⟩ n) := by
  pointwise []

/-- The array of codes cut into batches, at an index. -/
theorem cut5 (A : Vec Ideal S256x3072 .i8) (b : Fin 2) (s : Fin 128) (k : Fin 3072) :
    (shapeCast S2x128x3072 A shapeCasts_S256x3072_S2x128x3072 : Vec Ideal S2x128x3072 .i8) (ix3 b s k) =
      A (ix2 ⟨b.val * 128 + s.val, by omega⟩ k) := by
  pointwise []

/-- A column cut into batches, at an index. -/
theorem cut6 {e : EltTy} (A : Vec Ideal S256x1 e) (b : Fin 2) (s : Fin 128) :
    (shapeCast S2x128 A shapeCasts_S256x1_S2x128 : Vec Ideal S2x128 e) (ix2 b s) =
      A (ix2 ⟨b.val * 128 + s.val, by omega⟩ 0) := by
  pointwise []

/-- The first result at an index. -/
theorem res4_apply (c : Dev nD) (b : Fin 2) (s : Fin 128) (n : Fin 8192) : res4 m c (ix3 b s n) =
    Quant.out (fun k => (m ((c : Thread nD τ).loc main_arg0) : Vec Ideal S2x128x3072 .f32) (ix3 b s k))
      (colOf m c n) (wsOf m c n) (biasOf m c n) := by
  rw [res4, cut4, ← rowOf_batch m c b s (by omega)]
  rfl

/-- The second result at an index. -/
theorem res5_apply (c : Dev nD) (b : Fin 2) (s : Fin 128) (k : Fin 3072) : res5 m c (ix3 b s k) =
    Quant.code (fun k => (m ((c : Thread nD τ).loc main_arg0) : Vec Ideal S2x128x3072 .f32) (ix3 b s k)) k := by
  rw [res5, cut5, ← rowOf_batch m c b s (by omega)]
  rfl

/-- The third result at an index. -/
theorem res6_apply (c : Dev nD) (b : Fin 2) (s : Fin 128) : res6 m c (ix2 b s) =
    Quant.scale (fun k => (m ((c : Thread nD τ).loc main_arg0) : Vec Ideal S2x128x3072 .f32) (ix3 b s k)) := by
  rw [res6, cut6, ← rowOf_batch m c b s (by omega)]
  rfl

/-- The fourth result at an index. -/
theorem res7_apply (c : Dev nD) (b : Fin 2) (s : Fin 128) : res7 m c (ix2 b s) =
    Quant.zp (fun k => (m ((c : Thread nD τ).loc main_arg0) : Vec Ideal S2x128x3072 .f32) (ix3 b s k)) := by
  rw [res7, cut6, ← rowOf_batch m c b s (by omega)]
  rfl

end Cert.KernelIdeal.Hand

end
-- ==== Proof.RefRows.lean ====
/- The reference read at an index, over the extended reals: its scales, zero points and codes are the quantiser's values of
   each row. -/
module

public import proofs.«01_k».proof.Proof.Quant
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic

/-- A row of the input. -/
abbrev row (x : Vec Ideal S2x128x3072 .f32) (b : Fin 2) (s : Fin 128) : Quant.Row := fun k => x (ix3 b s k)

/-- The clip's upper end, from the integer it is printed as. -/
theorem sitofp_127 : (FloatOps.sitofp FTy.f32 127#32 : Ideal .f32) = ((127 : ℝ) : EReal) := by
  show (((127#32 : BitVec 32).toInt : ℝ) : EReal) = _
  rw [show (127#32 : BitVec 32).toInt = 127 from rfl]
  norm_num

/-- The clip's lower end, from the integer it is printed as. -/
theorem sitofp_m128 : (FloatOps.sitofp FTy.f32 4294967168#32 : Ideal .f32) = ((-128 : ℝ) : EReal) := by
  show (((4294967168#32 : BitVec 32).toInt : ℝ) : EReal) = _
  rw [show (4294967168#32 : BitVec 32).toInt = -128 from rfl]
  norm_num

/-- The least element. -/
theorem v0_apply (x : Vec Ideal S2x128x3072 .f32) (b : Fin 2) (s : Fin 128) :
    val_main_v0 (F := Ideal) x (ix2 b s) = (Finset.univ : Finset (Fin 3072)).fold min ⊤ (row x b s) := by
  pointwise [val_main_v0, val_main_cst]
  rw [Quant.bits_top]

/-- The greatest element. -/
theorem v3_apply (x : Vec Ideal S2x128x3072 .f32) (b : Fin 2) (s : Fin 128) :
    val_main_v3 (F := Ideal) x (ix2 b s) = (Finset.univ : Finset (Fin 3072)).fold max ⊥ (row x b s) := by
  pointwise [val_main_v3, val_main_cst_1]
  rw [Quant.bits_bot]

/-- The least element, or zero. -/
theorem v2_apply (x : Vec Ideal S2x128x3072 .f32) (b : Fin 2) (s : Fin 128) :
    val_main_v2 (F := Ideal) x (ix2 b s) = Quant.lo (row x b s) := by
  rw [val_main_v2_apply, val_main_v1_apply, val_main_cst_0_apply, v0_apply]
  unfold Quant.lo
  rw [← Quant.bits_zero]
  generalize (Finset.univ : Finset (Fin 3072)).fold min ⊤ (row x b s) = a
  rfl

/-- The greatest element, or zero. -/
theorem v5_apply (x : Vec Ideal S2x128x3072 .f32) (b : Fin 2) (s : Fin 128) :
    val_main_v5 (F := Ideal) x (ix2 b s) = Quant.hi (row x b s) := by
  rw [val_main_v5_apply, val_main_v4_apply, val_main_cst_2_apply, v3_apply]
  unfold Quant.hi
  rw [← Quant.bits_zero]
  generalize (Finset.univ : Finset (Fin 3072)).fold max ⊥ (row x b s) = a
  rfl

/-- The scale. -/
theorem v10_apply (x : Vec Ideal S2x128x3072 .f32) (b : Fin 2) (s : Fin 128) :
    val_main_v10 (F := Ideal) x (ix2 b s) = Quant.scale (row x b s) := by
  rw [val_main_v10_apply, val_main_v6_apply, val_main_call0_v1_apply, val_main_call0_v0_apply, val_main_cst_4_apply,
    val_main_v9_apply, val_main_v8_apply, val_main_cst_3_apply, val_main_v7_apply, v2_apply, v5_apply]
  unfold Quant.scale
  rw [← Quant.bits_one, ← Quant.bits_255]
  generalize Quant.hi (row x b s) = h
  generalize Quant.lo (row x b s) = l
  pointwise []

/-- The zero point. -/
theorem v15_apply (x : Vec Ideal S2x128x3072 .f32) (b : Fin 2) (s : Fin 128) :
    val_main_v15 (F := Ideal) x (ix2 b s) = Quant.zpF (row x b s) := by
  rw [val_main_v15_apply, val_main_call2_v4_apply, val_main_call2_v3_apply, val_main_c_6_apply, val_main_call2_v2_apply,
    val_main_call2_v1_apply, val_main_call2_v0_apply, val_main_c_apply, val_main_v14_apply, val_main_v13_apply,
    val_main_v12_apply, val_main_cst_5_apply, val_main_v11_apply, v2_apply, v10_apply, sitofp_127, sitofp_m128]
  unfold Quant.zpF Quant.clip Quant.rnd
  rw [show (FloatOps.ofBits FTy.f32 0xC3000000#32 : Ideal .f32) = ((-128 : ℝ) : EReal) from Quant.bits_m128]
  generalize Quant.scale (row x b s) = h
  generalize Quant.lo (row x b s) = l
  rfl

/-- The zero point's word. -/
theorem v16_apply (x : Vec Ideal S2x128x3072 .f32) (b : Fin 2) (s : Fin 128) :
    val_main_v16 (F := Ideal) x (ix2 b s) = Quant.zp (row x b s) := by
  pointwise [val_main_v16]
  rw [v15_apply]
  rfl

/-- The scales over the whole input. -/
theorem v18_apply (x : Vec Ideal S2x128x3072 .f32) (b : Fin 2) (s : Fin 128) (k : Fin 3072) :
    val_main_v18 (F := Ideal) x (ix3 b s k) = val_main_v10 (F := Ideal) x (ix2 b s) := by
  pointwise [val_main_v18, val_main_v17]

/-- The zero points over the whole input. -/
theorem v23_apply (x : Vec Ideal S2x128x3072 .f32) (b : Fin 2) (s : Fin 128) (k : Fin 3072) :
    val_main_v23 (F := Ideal) x (ix3 b s k) = (FloatOps.sitofp FTy.f32 (val_main_v16 (F := Ideal) x (ix2 b s)) : Ideal .f32) := by
  pointwise [val_main_v23, val_main_v22, val_main_v21]

/-- The codes, as numbers. -/
theorem v25_apply (x : Vec Ideal S2x128x3072 .f32) (b : Fin 2) (s : Fin 128) (k : Fin 3072) :
    val_main_v25 (F := Ideal) x (ix3 b s k) = Quant.codeF (row x b s) k := by
  rw [val_main_v25_apply, val_main_call4_v4_apply, val_main_call4_v3_apply, val_main_c_8_apply, val_main_call4_v2_apply,
    val_main_call4_v1_apply, val_main_call4_v0_apply, val_main_c_7_apply, val_main_v24_apply, val_main_v20_apply,
    val_main_v19_apply, v23_apply, v18_apply, v16_apply, v10_apply, sitofp_127, sitofp_m128,
    show (FloatOps.sitofp FTy.f32 (Quant.zp (row x b s)) : Ideal .f32) = Quant.zpF (row x b s) from Quant.zp_toInt _]
  unfold Quant.codeF Quant.clip Quant.rnd
  generalize Quant.scale (row x b s) = h
  generalize Quant.zpF (row x b s) = z
  rfl

/-- The codes' words. -/
theorem v27_apply (x : Vec Ideal S2x128x3072 .f32) (b : Fin 2) (s : Fin 128) (k : Fin 3072) :
    val_main_v27 (F := Ideal) x (ix3 b s k) = Quant.code (row x b s) k := by
  pointwise [val_main_v27, val_main_v26]
  rw [v25_apply]
  rfl

/-- A sum of words, as the programs add them. -/
theorem fold_addi (n : Nat) (f : Fin n → BitVec 32) :
    (Finset.univ : Finset (Fin n)).fold IntOp.addi (0#32) f = ∑ k, f k := rfl

/-- The sums of the columns of the weights. -/
theorem v29_apply (w : Vec Ideal S3072x8192 .i8) (n : Fin 8192) :
    val_main_v29 (F := Ideal) w (ix1 n) = ∑ k : Fin 3072, (w (ix2 k n)).signExtend 32 := by
  pointwise [val_main_v29, val_main_v28, val_main_c_9]
  exact fold_addi _ _

/-- The product of the codes with the weights. -/
theorem v37_apply (x : Vec Ideal S2x128x3072 .f32) (w : Vec Ideal S3072x8192 .i8) (b : Fin 2) (s : Fin 128) (n : Fin 8192) :
    val_main_v37 (F := Ideal) x w (ix3 b s n) =
      ∑ k : Fin 3072, (Quant.code (row x b s) k).signExtend 32 * (w (ix2 k n)).signExtend 32 := by
  pointwise [val_main_v37, val_main_v36, val_main_v35, val_main_v34, val_main_v33, val_main_v32, val_main_v31, val_main_v30, val_main_c_10]
  refine (fold_addi _ _).trans (Finset.sum_congr rfl fun k _ => ?_)
  rw [v27_apply]
  rfl

/-- The zero points times the sums of the columns. -/
theorem v42_apply (x : Vec Ideal S2x128x3072 .f32) (w : Vec Ideal S3072x8192 .i8) (b : Fin 2) (s : Fin 128) (n : Fin 8192) :
    val_main_v42 (F := Ideal) x w (ix3 b s n) =
      val_main_v16 (F := Ideal) x (ix2 b s) * val_main_v29 (F := Ideal) w (ix1 n) := by
  pointwise [val_main_v42, val_main_v41, val_main_v40, val_main_v39, val_main_v38]
  rfl

/-- The scales over the whole product. -/
theorem v47_apply (x : Vec Ideal S2x128x3072 .f32) (b : Fin 2) (s : Fin 128) (n : Fin 8192) :
    val_main_v47 (F := Ideal) x (ix3 b s n) = val_main_v10 (F := Ideal) x (ix2 b s) := by
  pointwise [val_main_v47, val_main_v45]

/-- The weights' scales over the whole product. -/
theorem v48_apply (ws : Vec Ideal S8192 .f32) (b : Fin 2) (s : Fin 128) (n : Fin 8192) :
    val_main_v48 (F := Ideal) ws (ix3 b s n) = ws (ix1 n) := by
  pointwise [val_main_v48, val_main_v46]

/-- The bias over the whole product. -/
theorem v52_apply (bi : Vec Ideal S8192 .f32) (b : Fin 2) (s : Fin 128) (n : Fin 8192) :
    val_main_v52 (F := Ideal) bi (ix3 b s n) = bi (ix1 n) := by
  pointwise [val_main_v52, val_main_v51]

/-- The product. -/
theorem v53_apply (x : Vec Ideal S2x128x3072 .f32) (w : Vec Ideal S3072x8192 .i8) (ws bi : Vec Ideal S8192 .f32)
    (b : Fin 2) (s : Fin 128) (n : Fin 8192) :
    val_main_v53 (F := Ideal) x w ws bi (ix3 b s n) =
      Quant.out (row x b s) (fun k => w (ix2 k n)) (ws (ix1 n)) (bi (ix1 n)) := by
  rw [val_main_v53_apply, val_main_v50_apply, val_main_v49_apply, val_main_v44_apply, val_main_v43_apply, v42_apply,
    v47_apply, v48_apply, v52_apply, v37_apply, v29_apply, v16_apply, v10_apply]
  unfold Quant.out Quant.acc
  generalize Quant.scale (row x b s) = h
  generalize Quant.zp (row x b s) = z
  generalize (∑ k : Fin 3072, (Quant.code (row x b s) k).signExtend 32 * (w (ix2 k n)).signExtend 32) = p
  generalize (∑ k : Fin 3072, (w (ix2 k n)).signExtend 32) = q
  rfl

end Cert.ReferenceIdeal.Hand

end
-- ==== Proof.Algebra.lean ====
/- The algebraic claim: over the extended reals the kernel and the reference end with equal results. -/
module

public import proofs.«01_k».proof.Defs
public import proofs.«01_k».proof.Proof.Results
public import proofs.«01_k».proof.Proof.RefRows
public import proofs.«01_k».proof.Proof.Gen.ReferenceIdeal.Run

@[expose] public section

set_option maxRecDepth 100000

noncomputable section

namespace Cert.Algebra

open Idealize.ShloMosaic Idealize.ShloMosaic.TcCoe Idealize.SL.Sem
open Cert.KernelIdeal.Hand Cert.ReferenceIdeal.Hand Cert.ReferenceIdeal.Read

variable (m : (ℓ : Loc Cert.KernelIdeal.nD Cert.KernelIdeal.τ Cert.KernelIdeal.sig) → Buf (Elt Ideal) ℓ)

/-- The kernel's first argument on a device. -/
abbrev arg0 (c : Dev Cert.KernelIdeal.nD) : Vec Ideal Cert.KernelIdeal.S2x128x3072 .f32 :=
  m ((c.tc : Thread Cert.KernelIdeal.nD Cert.KernelIdeal.τ).loc Cert.KernelIdeal.main_arg0)
/-- The kernel's second argument on a device. -/
abbrev arg1 (c : Dev Cert.KernelIdeal.nD) : Vec Ideal Cert.KernelIdeal.S3072x8192 .i8 :=
  m ((c.tc : Thread Cert.KernelIdeal.nD Cert.KernelIdeal.τ).loc Cert.KernelIdeal.main_arg1)
/-- The kernel's third argument on a device. -/
abbrev arg2 (c : Dev Cert.KernelIdeal.nD) : Vec Ideal Cert.KernelIdeal.S8192 .f32 :=
  m ((c.tc : Thread Cert.KernelIdeal.nD Cert.KernelIdeal.τ).loc Cert.KernelIdeal.main_arg2)
/-- The kernel's fourth argument on a device. -/
abbrev arg3 (c : Dev Cert.KernelIdeal.nD) : Vec Ideal Cert.KernelIdeal.S8192 .f32 :=
  m ((c.tc : Thread Cert.KernelIdeal.nD Cert.KernelIdeal.τ).loc Cert.KernelIdeal.main_arg3)

/-- The products agree. -/
theorem same_y (c : Dev Cert.KernelIdeal.nD) :
    val_main_v53 (F := Ideal) (arg0 m c) (arg1 m c) (arg2 m c) (arg3 m c) = res4 m c := by
  funext i
  obtain ⟨b, s, n, rfl⟩ : ∃ (b : Fin 2) (s : Fin 128) (n : Fin 8192), i = ix3 b s n := ⟨i 0, i 1, i 2, eq_ix3 i⟩
  exact (v53_apply _ _ _ _ b s n).trans (res4_apply m c b s n).symm

/-- The codes agree. -/
theorem same_codes (c : Dev Cert.KernelIdeal.nD) : val_main_v27 (F := Ideal) (arg0 m c) = res5 m c := by
  funext i
  obtain ⟨b, s, k, rfl⟩ : ∃ (b : Fin 2) (s : Fin 128) (k : Fin 3072), i = ix3 b s k := ⟨i 0, i 1, i 2, eq_ix3 i⟩
  exact (v27_apply _ b s k).trans (res5_apply m c b s k).symm

/-- The scales agree. -/
theorem same_scales (c : Dev Cert.KernelIdeal.nD) : val_main_v10 (F := Ideal) (arg0 m c) = res6 m c := by
  funext i
  obtain ⟨b, s, rfl⟩ : ∃ (b : Fin 2) (s : Fin 128), i = ix2 b s := ⟨i 0, i 1, eq_ix2 i⟩
  exact (v10_apply _ b s).trans (res6_apply m c b s).symm

/-- The zero points agree. -/
theorem same_zps (c : Dev Cert.KernelIdeal.nD) : val_main_v16 (F := Ideal) (arg0 m c) = res7 m c := by
  funext i
  obtain ⟨b, s, rfl⟩ : ∃ (b : Fin 2) (s : Fin 128), i = ix2 b s := ⟨i 0, i 1, eq_ix2 i⟩
  exact (v16_apply _ b s).trans (res7_apply m c b s).symm

/-- The claim: from memories that agree on the arguments, the kernel and the reference end with the same four results. -/
theorem algebraic (h : Cert.KernelIdeal.Facts) (h' : Cert.ReferenceIdeal.Facts) :
    Cert.algebraic_KernelIdeal_ReferenceIdeal (hKernelIdeal := h) (hReferenceIdeal := h') := by
  intro m g m' g' _ hargs
  refine ⟨res4 m, res5 m, res6 m, res7 m, run_results m g, ?_⟩
  refine (θ_run Cert.ReferenceIdeal.defs _ _).mono (fun r hr c => ?_) (Cert.ReferenceIdeal.Value.run (F := Ideal) m' g')
  obtain ⟨e53, e27, e10, e16, ea⟩ := hr c
  obtain ⟨a0, a1, a2, a3⟩ := hargs c
  refine ⟨e53.trans ?_, e27.trans ?_, e10.trans ?_, e16.trans ?_, ea⟩
  · rw [val_main_v53_eq m' c, a0, a1, a2, a3]; exact same_y m c
  · refine (val_main_v27_eq _).trans ?_; rw [a0]; exact same_codes m c
  · refine (val_main_v10_eq _).trans ?_; rw [a0]; exact same_scales m c
  · refine (val_main_v16_eq _).trans ?_; rw [a0]; exact same_zps m c

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim of this directory holds. -/
theorem claim : Cert.Claim := ⟨Cert.Kernel.Gen.facts, Cert.KernelIdeal.Gen.facts, Cert.ReferenceIdeal.Gen.facts,
  Cert.Frames.kernel Cert.Kernel.Gen.facts Cert.KernelIdeal.Gen.facts,
  Cert.Frames.kernel_ideal Cert.KernelIdeal.Gen.facts,
  Cert.Frames.reference_ideal Cert.ReferenceIdeal.Gen.facts,
  trivial,
  Cert.Algebra.algebraic Cert.KernelIdeal.Gen.facts Cert.ReferenceIdeal.Gen.facts⟩

end Cert.Proof

end
